-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x197x384 : Shape := ⟨3, ![32, 197, 384]⟩
abbrev S32x197x1 : Shape := ⟨3, ![32, 197, 1]⟩
abbrev S1152x384 : Shape := ⟨2, ![1152, 384]⟩
abbrev S1x196 : Shape := ⟨2, ![1, 196]⟩
abbrev S_ : Shape := ⟨0, ![]⟩
abbrev S384x1152 : Shape := ⟨2, ![384, 1152]⟩
abbrev S32x197x1152 : Shape := ⟨3, ![32, 197, 1152]⟩
abbrev S32x197x3x12x32 : Shape := ⟨5, ![32, 197, 3, 12, 32]⟩
abbrev S3x32x12x197x32 : Shape := ⟨5, ![3, 32, 12, 197, 32]⟩
abbrev S1x32x12x197x32 : Shape := ⟨5, ![1, 32, 12, 197, 32]⟩
abbrev S32x12x197x32 : Shape := ⟨4, ![32, 12, 197, 32]⟩
abbrev S32x12x197x197 : Shape := ⟨4, ![32, 12, 197, 197]⟩
abbrev S32x12x197 : Shape := ⟨3, ![32, 12, 197]⟩
abbrev S32x12x197x1 : Shape := ⟨4, ![32, 12, 197, 1]⟩
abbrev S32x197x12x32 : Shape := ⟨4, ![32, 197, 12, 32]⟩
abbrev S32x197 : Shape := ⟨2, ![32, 197]⟩
abbrev S32x12x1x197 : Shape := ⟨4, ![32, 12, 1, 197]⟩
abbrev S32x1x197 : Shape := ⟨3, ![32, 1, 197]⟩
abbrev S32x1x196 : Shape := ⟨3, ![32, 1, 196]⟩
abbrev S32x1 : Shape := ⟨2, ![32, 1]⟩
abbrev S32x1x1 : Shape := ⟨3, ![32, 1, 1]⟩
abbrev S1x1x196 : Shape := ⟨3, ![1, 1, 196]⟩
abbrev S196x196 : Shape := ⟨2, ![196, 196]⟩
abbrev S196 : Shape := ⟨1, ![196]⟩
abbrev S196x1 : Shape := ⟨2, ![196, 1]⟩
abbrev S196x32 : Shape := ⟨2, ![196, 32]⟩
abbrev S32x196 : Shape := ⟨2, ![32, 196]⟩
abbrev S1x32 : Shape := ⟨2, ![1, 32]⟩
abbrev S32 : Shape := ⟨1, ![32]⟩
abbrev S32x32 : Shape := ⟨2, ![32, 32]⟩
abbrev S1x197x384 : Shape := ⟨3, ![1, 197, 384]⟩
abbrev S197x384 : Shape := ⟨2, ![197, 384]⟩
abbrev S1x1 : Shape := ⟨2, ![1, 1]⟩
abbrev S197x1 : Shape := ⟨2, ![197, 1]⟩
abbrev S197x197 : Shape := ⟨2, ![197, 197]⟩

abbrev nBuf : Space → Nat
  | .hbm => 77
  | .vmem => 19
  | .smem => 0
  | _ => 0

abbrev bufTy : (tb : Table) → Fin (tcTables nBuf tb) → BufTy
  | .hbm, ⟨0, _⟩ => ⟨S32x197x384, .f32⟩
  | .hbm, ⟨1, _⟩ => ⟨S32x197x384, .f32⟩
  | .hbm, ⟨2, _⟩ => ⟨S32x197x1, .f32⟩
  | .hbm, ⟨3, _⟩ => ⟨S1152x384, .f32⟩
  | .hbm, ⟨4, _⟩ => ⟨S1x196, .f32⟩
  | .hbm, ⟨5, _⟩ => ⟨S_, .i32⟩
  | .hbm, ⟨6, _⟩ => ⟨S384x1152, .f32⟩
  | .hbm, ⟨7, _⟩ => ⟨S32x197x1152, .f32⟩
  | .hbm, ⟨8, _⟩ => ⟨S32x197x3x12x32, .f32⟩
  | .hbm, ⟨9, _⟩ => ⟨S3x32x12x197x32, .f32⟩
  | .hbm, ⟨10, _⟩ => ⟨S1x32x12x197x32, .f32⟩
  | .hbm, ⟨11, _⟩ => ⟨S32x12x197x32, .f32⟩
  | .hbm, ⟨12, _⟩ => ⟨S1x32x12x197x32, .f32⟩
  | .hbm, ⟨13, _⟩ => ⟨S32x12x197x32, .f32⟩
  | .hbm, ⟨14, _⟩ => ⟨S1x32x12x197x32, .f32⟩
  | .hbm, ⟨15, _⟩ => ⟨S32x12x197x32, .f32⟩
  | .hbm, ⟨16, _⟩ => ⟨S32x12x197x197, .f32⟩
  | .hbm, ⟨17, _⟩ => ⟨S_, .f32⟩
  | .hbm, ⟨18, _⟩ => ⟨S32x12x197x197, .f32⟩
  | .hbm, ⟨19, _⟩ => ⟨S32x12x197x197, .f32⟩
  | .hbm, ⟨20, _⟩ => ⟨S_, .f32⟩
  | .hbm, ⟨21, _⟩ => ⟨S32x12x197, .f32⟩
  | .hbm, ⟨22, _⟩ => ⟨S_, .f32⟩
  | .hbm, ⟨23, _⟩ => ⟨S32x12x197, .f32⟩
  | .hbm, ⟨24, _⟩ => ⟨S32x12x197, .f32⟩
  | .hbm, ⟨25, _⟩ => ⟨S32x12x197x1, .f32⟩
  | .hbm, ⟨26, _⟩ => ⟨S32x12x197x197, .f32⟩
  | .hbm, ⟨27, _⟩ => ⟨S32x12x197x197, .f32⟩
  | .hbm, ⟨28, _⟩ => ⟨S32x12x197x197, .f32⟩
  | .hbm, ⟨29, _⟩ => ⟨S_, .f32⟩
  | .hbm, ⟨30, _⟩ => ⟨S32x12x197, .f32⟩
  | .hbm, ⟨31, _⟩ => ⟨S32x12x197x1, .f32⟩
  | .hbm, ⟨32, _⟩ => ⟨S32x12x197x197, .f32⟩
  | .hbm, ⟨33, _⟩ => ⟨S32x12x197x197, .f32⟩
  | .hbm, ⟨34, _⟩ => ⟨S32x197x12x32, .f32⟩
  | .hbm, ⟨35, _⟩ => ⟨S32x197x384, .f32⟩
  | .hbm, ⟨36, _⟩ => ⟨S32x197x384, .f32⟩
  | .hbm, ⟨37, _⟩ => ⟨S_, .f32⟩
  | .hbm, ⟨38, _⟩ => ⟨S32x197, .f32⟩
  | .hbm, ⟨39, _⟩ => ⟨S32x197, .f32⟩
  | .hbm, ⟨40, _⟩ => ⟨S32x12x1x197, .f32⟩
  | .hbm, ⟨41, _⟩ => ⟨S32x12x197, .f32⟩
  | .hbm, ⟨42, _⟩ => ⟨S32x1x197, .f32⟩
  | .hbm, ⟨43, _⟩ => ⟨S32x1x197, .f32⟩
  | .hbm, ⟨44, _⟩ => ⟨S32x1x197, .f32⟩
  | .hbm, ⟨45, _⟩ => ⟨S32x1x197, .f32⟩
  | .hbm, ⟨46, _⟩ => ⟨S32x1x197, .f32⟩
  | .hbm, ⟨47, _⟩ => ⟨S32x1x197, .f32⟩
  | .hbm, ⟨48, _⟩ => ⟨S32x1x197, .f32⟩
  | .hbm, ⟨49, _⟩ => ⟨S32x1x197, .f32⟩
  | .hbm, ⟨50, _⟩ => ⟨S32x1x197, .f32⟩
  | .hbm, ⟨51, _⟩ => ⟨S32x1x197, .f32⟩
  | .hbm, ⟨52, _⟩ => ⟨S32x1x197, .f32⟩
  | .hbm, ⟨53, _⟩ => ⟨S32x1x197, .f32⟩
  | .hbm, ⟨54, _⟩ => ⟨S32x1x197, .f32⟩
  | .hbm, ⟨55, _⟩ => ⟨S32x1x197, .f32⟩
  | .hbm, ⟨56, _⟩ => ⟨S32x1x197, .f32⟩
  | .hbm, ⟨57, _⟩ => ⟨S32x1x197, .f32⟩
  | .hbm, ⟨58, _⟩ => ⟨S32x1x197, .f32⟩
  | .hbm, ⟨59, _⟩ => ⟨S32x1x197, .f32⟩
  | .hbm, ⟨60, _⟩ => ⟨S32x1x197, .f32⟩
  | .hbm, ⟨61, _⟩ => ⟨S32x1x197, .f32⟩
  | .hbm, ⟨62, _⟩ => ⟨S32x1x197, .f32⟩
  | .hbm, ⟨63, _⟩ => ⟨S32x1x197, .f32⟩
  | .hbm, ⟨64, _⟩ => ⟨S32x1x197, .f32⟩
  | .hbm, ⟨65, _⟩ => ⟨S32x1x197, .f32⟩
  | .hbm, ⟨66, _⟩ => ⟨S32x1x197, .f32⟩
  | .hbm, ⟨67, _⟩ => ⟨S32x1x196, .f32⟩
  | .hbm, ⟨68, _⟩ => ⟨S_, .f32⟩
  | .hbm, ⟨69, _⟩ => ⟨S32x1, .f32⟩
  | .hbm, ⟨70, _⟩ => ⟨S32x1x1, .f32⟩
  | .hbm, ⟨71, _⟩ => ⟨S32x1x196, .f32⟩
  | .hbm, ⟨72, _⟩ => ⟨S32x1x196, .f32⟩
  | .hbm, ⟨73, _⟩ => ⟨S32x1x196, .f32⟩
  | .hbm, ⟨74, _⟩ => ⟨S32x1x196, .f32⟩
  | .hbm, ⟨75, _⟩ => ⟨S32x1x196, .f32⟩
  | .hbm, ⟨76, _⟩ => ⟨S32x197x384, .f32⟩
  | .local _ .vmem, ⟨0, _⟩ => ⟨S1x1x196, .f32⟩
  | .local _ .vmem, ⟨1, _⟩ => ⟨S1x1x196, .f32⟩
  | .local _ .vmem, ⟨2, _⟩ => ⟨S1x1x196, .f32⟩
  | .local _ .vmem, ⟨3, _⟩ => ⟨S1x1x196, .f32⟩
  | .local _ .vmem, ⟨4, _⟩ => ⟨S1x1x196, .f32⟩
  | .local _ .vmem, ⟨5, _⟩ => ⟨S1x1x196, .f32⟩
  | .local _ .vmem, ⟨6, _⟩ => ⟨S32x1x196, .f32⟩
  | .local _ .vmem, ⟨7, _⟩ => ⟨S32x1x196, .f32⟩
  | .local _ .vmem, ⟨8, _⟩ => ⟨S196x32, .f32⟩
  | .local _ .vmem, ⟨9, _⟩ => ⟨S196x32, .f32⟩
  | .local _ .vmem, ⟨10, _⟩ => ⟨S1x1x196, .f32⟩
  | .local _ .vmem, ⟨11, _⟩ => ⟨S1x1x196, .f32⟩
  | .local _ .vmem, ⟨12, _⟩ => ⟨S1x1x196, .f32⟩
  | .local _ .vmem, ⟨13, _⟩ => ⟨S1x1x196, .f32⟩
  | .local _ .vmem, ⟨14, _⟩ => ⟨S1x196, .f32⟩
  | .local _ .vmem, ⟨15, _⟩ => ⟨S1x197x384, .f32⟩
  | .local _ .vmem, ⟨16, _⟩ => ⟨S1x197x384, .f32⟩
  | .local _ .vmem, ⟨17, _⟩ => ⟨S1x197x384, .f32⟩
  | .local _ .vmem, ⟨18, _⟩ => ⟨S1x197x384, .f32⟩
  | _, _ => ⟨S32x197x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59_0 : Ref sig .tc := ⟨.hbm, 73, rfl⟩
abbrev main_v59_1 : Ref sig .tc := ⟨.hbm, 74, rfl⟩
abbrev main_v60 : Ref sig .tc := ⟨.hbm, 75, rfl⟩
abbrev main_v61 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x196 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x196 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

@[reducible] def k1_t1_loop : Scf.Loop 32 :=
  let c0_i32 : BitVec 32 := 0#32
  let c128_i32 : BitVec 32 := 128#32
  let v12 : BitVec 32 := Scalar.addi c0_i32 c128_i32
  let c1_i32 : BitVec 32 := 1#32
  ⟨c0_i32, v12, c1_i32⟩
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let v36 : Index := Scalar.indexCast arg5
  let c0_18 : Index := 0#32
  ![v36.toNat, 0]
@[reducible] def k1_t2_loop : Scf.Loop 32 :=
  let c128_i32_7 : BitVec 32 := 128#32
  let c68_i32 : BitVec 32 := 68#32
  let v15 : BitVec 32 := Scalar.addi c128_i32_7 c68_i32
  let c1_i32_8 : BitVec 32 := 1#32
  ⟨c128_i32_7, v15, c1_i32_8⟩
def k1_off2 (k1_t2 : Fin k1_t2_loop.trips) : Fin 2 → Nat :=
  let c128_i32_7 : BitVec 32 := 128#32
  let c1_i32_8 : BitVec 32 := 1#32
  let arg5 : BitVec 32 := Scf.iv c128_i32_7 c1_i32_8 k1_t2
  let v36 : Index := Scalar.indexCast arg5
  let c0_18 : Index := 0#32
  ![v36.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S32x1x196 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1x196 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x196 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x196 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x196 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x197x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x197x384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S32x197x384 : Shape := ⟨3, ![32, 197, 384]⟩
abbrev S32x197x1 : Shape := ⟨3, ![32, 197, 1]⟩
abbrev S1152x384 : Shape := ⟨2, ![1152, 384]⟩
abbrev S1x196 : Shape := ⟨2, ![1, 196]⟩
abbrev S_ : Shape := ⟨0, ![]⟩
abbrev S384x1152 : Shape := ⟨2, ![384, 1152]⟩
abbrev S32x197x1152 : Shape := ⟨3, ![32, 197, 1152]⟩
abbrev S32x197x3x12x32 : Shape := ⟨5, ![32, 197, 3, 12, 32]⟩
abbrev S3x32x12x197x32 : Shape := ⟨5, ![3, 32, 12, 197, 32]⟩
abbrev S1x32x12x197x32 : Shape := ⟨5, ![1, 32, 12, 197, 32]⟩
abbrev S32x12x197x32 : Shape := ⟨4, ![32, 12, 197, 32]⟩
abbrev S32x12x197x197 : Shape := ⟨4, ![32, 12, 197, 197]⟩
abbrev S32x12x197 : Shape := ⟨3, ![32, 12, 197]⟩
abbrev S32x12x197x1 : Shape := ⟨4, ![32, 12, 197, 1]⟩
abbrev S32x197x12x32 : Shape := ⟨4, ![32, 197, 12, 32]⟩
abbrev S32x197 : Shape := ⟨2, ![32, 197]⟩
abbrev S32x12x1x197 : Shape := ⟨4, ![32, 12, 1, 197]⟩
abbrev S32x196 : Shape := ⟨2, ![32, 196]⟩
abbrev S32 : Shape := ⟨1, ![32]⟩
abbrev S32x1 : Shape := ⟨2, ![32, 1]⟩
abbrev S32x196x1 : Shape := ⟨3, ![32, 196, 1]⟩
abbrev S1 : Shape := ⟨1, ![1]⟩
abbrev S1x1x1 : Shape := ⟨3, ![1, 1, 1]⟩
abbrev S32x1x196 : Shape := ⟨3, ![32, 1, 196]⟩
abbrev S196 : Shape := ⟨1, ![196]⟩
abbrev S1x196x1 : Shape := ⟨3, ![1, 196, 1]⟩
abbrev S32x196x196 : Shape := ⟨3, ![32, 196, 196]⟩
abbrev S32x196x384 : Shape := ⟨3, ![32, 196, 384]⟩
abbrev S32x1x384 : Shape := ⟨3, ![32, 1, 384]⟩

abbrev nBuf : Space → Nat
  | .hbm => 151
  | .vmem => 0
  | .smem => 0
  | _ => 0

abbrev hbmTy0_0 (i : Nat) : BufTy := match i % 128 with
  | 0 => ⟨S32x197x384, .f32⟩
  | 1 => ⟨S32x197x384, .f32⟩
  | 2 => ⟨S32x197x1, .f32⟩
  | 3 => ⟨S1152x384, .f32⟩
  | 4 => ⟨S1x196, .f32⟩
  | 5 => ⟨S_, .i32⟩
  | 6 => ⟨S384x1152, .f32⟩
  | 7 => ⟨S32x197x1152, .f32⟩
  | 8 => ⟨S32x197x3x12x32, .f32⟩
  | 9 => ⟨S3x32x12x197x32, .f32⟩
  | 10 => ⟨S1x32x12x197x32, .f32⟩
  | 11 => ⟨S32x12x197x32, .f32⟩
  | 12 => ⟨S1x32x12x197x32, .f32⟩
  | 13 => ⟨S32x12x197x32, .f32⟩
  | 14 => ⟨S1x32x12x197x32, .f32⟩
  | 15 => ⟨S32x12x197x32, .f32⟩
  | 16 => ⟨S32x12x197x197, .f32⟩
  | 17 => ⟨S_, .f32⟩
  | 18 => ⟨S32x12x197x197, .f32⟩
  | 19 => ⟨S32x12x197x197, .f32⟩
  | 20 => ⟨S_, .f32⟩
  | 21 => ⟨S32x12x197, .f32⟩
  | 22 => ⟨S_, .f32⟩
  | 23 => ⟨S32x12x197, .f32⟩
  | 24 => ⟨S32x12x197, .f32⟩
  | 25 => ⟨S32x12x197x1, .f32⟩
  | 26 => ⟨S32x12x197x197, .f32⟩
  | 27 => ⟨S32x12x197x197, .f32⟩
  | 28 => ⟨S32x12x197x197, .f32⟩
  | 29 => ⟨S_, .f32⟩
  | 30 => ⟨S32x12x197, .f32⟩
  | 31 => ⟨S32x12x197x1, .f32⟩
  | 32 => ⟨S32x12x197x197, .f32⟩
  | 33 => ⟨S32x12x197x197, .f32⟩
  | 34 => ⟨S32x197x12x32, .f32⟩
  | 35 => ⟨S32x197x384, .f32⟩
  | 36 => ⟨S32x197x384, .f32⟩
  | 37 => ⟨S_, .f32⟩
  | 38 => ⟨S32x197, .f32⟩
  | 39 => ⟨S32x197, .f32⟩
  | 40 => ⟨S32x12x1x197, .f32⟩
  | 41 => ⟨S32x12x197, .f32⟩
  | 42 => ⟨S_, .f32⟩
  | 43 => ⟨S32x197, .f32⟩
  | 44 => ⟨S32x197, .f32⟩
  | 45 => ⟨S32x196, .f32⟩
  | 46 => ⟨S_, .f32⟩
  | 47 => ⟨S32, .f32⟩
  | 48 => ⟨S32x1, .f32⟩
  | 49 => ⟨S32x196, .f32⟩
  | 50 => ⟨S32x196, .f32⟩
  | 51 => ⟨S32x196, .i32⟩
  | 52 => ⟨S32x196, .f32⟩
  | 53 => ⟨S32x196, .i32⟩
  | 54 => ⟨S_, .i32⟩
  | 55 => ⟨S32x196, .i32⟩
  | 56 => ⟨S32x196, .i1⟩
  | 57 => ⟨S_, .i32⟩
  | 58 => ⟨S32x196, .i32⟩
  | 59 => ⟨S32x196, .i32⟩
  | 60 => ⟨S32x196, .i32⟩
  | 61 => ⟨S32x196x1, .i32⟩
  | 62 => ⟨S1, .i32⟩
  | 63 => ⟨S_, .i32⟩
  | 64 => ⟨S32x196x1, .i32⟩
  | 65 => ⟨S32x196x1, .i1⟩
  | 66 => ⟨S1x1x1, .i32⟩
  | 67 => ⟨S32x196x1, .i32⟩
  | 68 => ⟨S32x196x1, .i1⟩
  | 69 => ⟨S32x196x1, .i1⟩
  | 70 => ⟨S_, .i1⟩
  | 71 => ⟨S32x196, .i1⟩
  | 72 => ⟨S32x196, .f32⟩
  | 73 => ⟨S_, .f32⟩
  | 74 => ⟨S32x196, .f32⟩
  | 75 => ⟨S32x196, .f32⟩
  | 76 => ⟨S_, .f32⟩
  | 77 => ⟨S_, .f32⟩
  | 78 => ⟨S32x196, .f32⟩
  | 79 => ⟨S_, .f32⟩
  | 80 => ⟨S32, .f32⟩
  | 81 => ⟨S32x1, .f32⟩
  | 82 => ⟨S_, .f32⟩
  | 83 => ⟨S32, .f32⟩
  | 84 => ⟨S32x1, .f32⟩
  | 85 => ⟨S32x196, .f32⟩
  | 86 => ⟨S32x196, .f32⟩
  | 87 => ⟨S32x1, .f32⟩
  | 88 => ⟨S32x196, .f32⟩
  | 89 => ⟨S32x196, .f32⟩
  | 90 => ⟨S32x1x196, .f32⟩
  | 91 => ⟨S196, .f32⟩
  | 92 => ⟨S1x196x1, .f32⟩
  | 93 => ⟨S32x196x196, .f32⟩
  | 94 => ⟨S32x196x196, .f32⟩
  | 95 => ⟨S32x196x196, .f32⟩
  | 96 => ⟨S32x196x196, .f32⟩
  | 97 => ⟨S32x196x196, .i32⟩
  | 98 => ⟨S_, .f32⟩
  | 99 => ⟨S_, .i32⟩
  | 100 => ⟨S32x196, .f32⟩
  | 101 => ⟨S32x196, .i32⟩
  | 102 => ⟨S32x196x384, .f32⟩
  | 103 => ⟨S32x196x1, .i32⟩
  | 104 => ⟨S_, .i32⟩
  | 105 => ⟨S32x196x1, .i32⟩
  | 106 => ⟨S32x196x1, .i1⟩
  | 107 => ⟨S_, .i32⟩
  | 108 => ⟨S32x196x1, .i32⟩
  | 109 => ⟨S32x196x1, .i32⟩
  | 110 => ⟨S32x196x1, .i32⟩
  | 111 => ⟨S1, .i32⟩
  | 112 => ⟨S_, .i32⟩
  | 113 => ⟨S32x196x1, .i32⟩
  | 114 => ⟨S32x196x1, .i1⟩
  | 115 => ⟨S1x1x1, .i32⟩
  | 116 => ⟨S32x196x1, .i32⟩
  | 117 => ⟨S32x196x1, .i1⟩
  | 118 => ⟨S32x196x1, .i1⟩
  | 119 => ⟨S_, .i1⟩
  | 120 => ⟨S32x196, .i1⟩
  | 121 => ⟨S32x196x384, .f32⟩
  | 122 => ⟨S32x196x384, .i1⟩
  | 123 => ⟨S_, .f32⟩
  | 124 => ⟨S32x196x384, .f32⟩
  | 125 => ⟨S32x196x384, .f32⟩
  | 126 => ⟨S32x196x1, .i32⟩
  | 127 => ⟨S_, .i32⟩
  | _ => ⟨S32x197x384, .f32⟩

abbrev hbmTy0_1 (i : Nat) : BufTy := match i % 128 with
  | 0 => ⟨S32x196x1, .i32⟩
  | 1 => ⟨S32x196x1, .i1⟩
  | 2 => ⟨S_, .i32⟩
  | 3 => ⟨S32x196x1, .i32⟩
  | 4 => ⟨S32x196x1, .i32⟩
  | 5 => ⟨S32x196x1, .i32⟩
  | 6 => ⟨S1, .i32⟩
  | 7 => ⟨S_, .i32⟩
  | 8 => ⟨S32x196x1, .i32⟩
  | 9 => ⟨S32x196x1, .i1⟩
  | 10 => ⟨S1x1x1, .i32⟩
  | 11 => ⟨S32x196x1, .i32⟩
  | 12 => ⟨S32x196x1, .i1⟩
  | 13 => ⟨S32x196x1, .i1⟩
  | 14 => ⟨S_, .i1⟩
  | 15 => ⟨S32x196, .i1⟩
  | 16 => ⟨S32x196x384, .f32⟩
  | 17 => ⟨S32x196x384, .i1⟩
  | 18 => ⟨S_, .f32⟩
  | 19 => ⟨S32x196x384, .f32⟩
  | 20 => ⟨S32x196x384, .f32⟩
  | 21 => ⟨S32x1x384, .f32⟩
  | 22 => ⟨S32x197x384, .f32⟩
  | _ => ⟨S32x197x384, .f32⟩

abbrev hbmTy (i : Nat) : BufTy := match i / 128 with
  | 0 => hbmTy0_0 i
  | 1 => hbmTy0_1 i
  | _ => ⟨S32x197x384, .f32⟩

abbrev bufTy : (tb : Table) → Fin (tcTables nBuf tb) → BufTy
  | .hbm, ⟨i, _⟩ => hbmTy i
  | _, _ => ⟨S32x197x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call1_v0 : Ref sig .tc := ⟨.hbm, 51, rfl⟩
abbrev main_call1_v1_0 : Ref sig .tc := ⟨.hbm, 52, rfl⟩
abbrev main_v36 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v37 : Ref sig .tc := ⟨.hbm, 75, rfl⟩
abbrev main_call3_call0_cst : Ref sig .tc := ⟨.hbm, 76, rfl⟩
abbrev main_call3_call0_v0 : Ref sig .tc := ⟨.hbm, 77, rfl⟩
abbrev main_v38 : Ref sig .tc := ⟨.hbm, 78, rfl⟩
abbrev main_cst_5 : Ref sig .tc := ⟨.hbm, 79, rfl⟩
abbrev main_v39 : Ref sig .tc := ⟨.hbm, 80, rfl⟩
abbrev main_v40 : Ref sig .tc := ⟨.hbm, 81, rfl⟩
abbrev main_cst_6 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call4_v0 : Ref sig .tc := ⟨.hbm, 97, rfl⟩
abbrev main_call4_cst : Ref sig .tc := ⟨.hbm, 98, rfl⟩
abbrev main_call4_c : Ref sig .tc := ⟨.hbm, 99, rfl⟩
abbrev main_call4_v1_0 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_c_1 : Ref sig .tc := ⟨.hbm, 111, rfl⟩
abbrev main_call5_c_2 : Ref sig .tc := ⟨.hbm, 112, rfl⟩
abbrev main_call5_v5 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_c_3 : Ref sig .tc := ⟨.hbm, 119, rfl⟩
abbrev main_call5_v11 : Ref sig .tc := ⟨.hbm, 120, rfl⟩
abbrev main_call5_v12 : Ref sig .tc := ⟨.hbm, 121, rfl⟩
abbrev main_call5_v13 : Ref sig .tc := ⟨.hbm, 122, rfl⟩
abbrev main_call5_cst : Ref sig .tc := ⟨.hbm, 123, rfl⟩
abbrev main_call5_v14 : Ref sig .tc := ⟨.hbm, 124, rfl⟩
abbrev main_v58 : Ref sig .tc := ⟨.hbm, 125, rfl⟩
abbrev main_v59 : Ref sig .tc := ⟨.hbm, 126, rfl⟩
abbrev main_call6_c : Ref sig .tc := ⟨.hbm, 127, rfl⟩
abbrev main_call6_v0 : Ref sig .tc := ⟨.hbm, 128, rfl⟩
abbrev main_call6_v1 : Ref sig .tc := ⟨.hbm, 129, rfl⟩
abbrev main_call6_c_0 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_call6_c_1 : Ref sig .tc := ⟨.hbm, 134, rfl⟩
abbrev main_call6_c_2 : Ref sig .tc := ⟨.hbm, 135, rfl⟩
abbrev main_call6_v5 : Ref sig .tc := ⟨.hbm, 136, rfl⟩
abbrev main_call6_v6 : Ref sig .tc := ⟨.hbm, 137, rfl⟩
abbrev main_call6_v7 : Ref sig .tc := ⟨.hbm, 138, rfl⟩
abbrev main_call6_v8 : Ref sig .tc := ⟨.hbm, 139, rfl⟩
abbrev main_call6_v9 : Ref sig .tc := ⟨.hbm, 140, rfl⟩
abbrev main_call6_v10 : Ref sig .tc := ⟨.hbm, 141, rfl⟩
abbrev main_call6_c_3 : Ref sig .tc := ⟨.hbm, 142, rfl⟩
abbrev main_call6_v11 : Ref sig .tc := ⟨.hbm, 143, rfl⟩
abbrev main_call6_v12 : Ref sig .tc := ⟨.hbm, 144, rfl⟩
abbrev main_call6_v13 : Ref sig .tc := ⟨.hbm, 145, rfl⟩
abbrev main_call6_cst : Ref sig .tc := ⟨.hbm, 146, rfl⟩
abbrev main_call6_v14 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩

abbrev nD : Nat := 1
abbrev τ : Topo := Topo.v7x

variable {F : FTy → Type} [FloatOps F]
-- ==== Proof.KernelIdeal.Rank.lean ====
/- The ranking call (grid of 32 points): what one point leaves in its output blocks, and that the body does so. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 0 of @main: custom_call 0, `cc0__rank_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data with the array of `V`
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1x196 := Rect.unit (s := S1x1x196) ![0, 0, 0] S1x1x196.size inb_S1x1x196_S1x1x196_0_0_0

/-! ## What the body leaves in each output window's buffer -/

/-- Window 1's staging buffer after the body, from the input windows' blocks: its 1 store as pieces, LAST
    FIRST. -/
def out0_1 (x0 : Vec F S1x1x196 .f32) : Vec F S1x1x196 .f32 :=
  View.canon [⟨r0_0, k0_pay1 (k0_pay7 (View.ld x0 r0_0))⟩]

/-- Its stores tile the buffer (checked by evaluation), so they cover it. -/
theorem cover0_1 (p0 : Vec F S1x1x196 .f32) (y : S1x1x196.Idx) :
    ∃ pc ∈ ([⟨r0_0, p0⟩] : List (View.Piece (Elt F) S1x1x196 .f32)), y ∈ pc.1.set :=
  View.cover_of_tiled [⟨r0_0, p0⟩] S1x1x196.size (by rfl) y

/-- Window 2's staging buffer after the body, from the input windows' blocks: its 1 store as pieces, LAST
    FIRST. -/
def out0_2 (x0 : Vec F S1x1x196 .f32) : Vec F S1x1x196 .f32 :=
  View.canon [⟨r0_0, k0_pay2 (k0_pay6 (View.ld x0 r0_0))⟩]

/-- Its stores tile the buffer (checked by evaluation), so they cover it. -/
theorem cover0_2 (p0 : Vec F S1x1x196 .f32) (y : S1x1x196.Idx) :
    ∃ pc ∈ ([⟨r0_0, p0⟩] : List (View.Piece (Elt F) S1x1x196 .f32)), y ∈ pc.1.set :=
  View.cover_of_tiled [⟨r0_0, p0⟩] S1x1x196.size (by rfl) y

/-! ## The body's triple -/

set_option maxHeartbeats 1000000 in
/-- The kernel body on whole staging memrefs, the inputs' at read contents `xW` and the outputs' at anything, runs to
    the continuation holding the inputs' as they were and each output's at `out0_W` of the inputs': the body is
    its skeleton, which is run through every part. -/
theorem sound_kernel0 (c : Dev nD) (E : Set ℕ) (i : grid0.Coords) (arg1 : Memref sig .tc .vmem S1x1x196 .f32) (harg1 : arg1.IsWhole) (arg2 : Memref sig .tc .vmem S1x1x196 .f32) (harg2 : arg2.IsWhole) (arg3 : Memref sig .tc .vmem S1x1x196 .f32) (harg3 : arg3.IsWhole)
    (x0 : Vec F S1x1x196 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__rank_kernel i arg1 harg1 arg2 harg2 arg3 harg3) K := by
  simp only [cc0__rank_kernel_eq_skeleton]; unfold cc0__rank_kernel_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.KernelIdeal.Scan.lean ====
/- What the cumulative-sum kernel's body does with its buffers.  The body transposes its block of sorted scores into a
   [196, 32] scratch `t` (one row per position, one column per batch element), runs along the rows of `t` twice — rows
   0 … 127, then rows 128 … 195 from a fresh sum — storing the running sums into a second scratch `c` (the second run
   adds the first run's total to each row it stores), and writes the normalised rows of `c` back, transposed.
   Stated at any float values: the running sums as a recursion over the rows (`sumTo`), the whole array of them
   (`sums`), each loop by its invariant, and the body's triple (`sound_kernel1`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Tiles
public import Idealize.ShloMosaic.Lib.WritesUnit
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `k` of a [196, 32] array, as a [1, 32] array (row 0 when `k` is no row). -/
def rowAt (t : FVec F S196x32 .f32) (k : ℕ) : FVec F S1x32 .f32 :=
  fun j => t (ix2 (if h : k < 196 then ⟨k, h⟩ else 0) (j 1))

/-- The running sum of rows `o`, …, `o + k - 1`, from zero, each row added on the right. -/
def sumTo (t : FVec F S196x32 .f32) (o : ℕ) : ℕ → FVec F S1x32 .f32
  | 0 => k1_pay3
  | k + 1 => k1_pay4 (sumTo t o k) (rowAt t (o + k))

theorem sumTo_succ (t : FVec F S196x32 .f32) (o k : ℕ) :
    sumTo t o (k + 1) = k1_pay4 (sumTo t o k) (rowAt t (o + k)) := rfl

/-- Every running sum: rows 0 … 127 hold the first run's, rows 128 … 195 the first run's total plus the second run's. -/
def sums (t : FVec F S196x32 .f32) : FVec F S196x32 .f32 := fun y =>
  if (y 0).val < 128 then sumTo t 0 ((y 0).val + 1) (ix2 0 (y 1))
  else addf (sumTo t 0 128) (sumTo t 128 ((y 0).val - 128 + 1)) (ix2 0 (y 1))

/-- A load of row `k` of the buffer reads that row. -/
theorem load_row (v : View sig .tc .vmem S196x32 .f32) (X : BufTy.Contents (Elt F) v.ty) (off : Fin 2 → ℕ)
    (inb : ∀ a, off a + S1x32.size a ≤ S196x32.size a) (k : ℕ) (hk : k < 196) (hoff : off = ![k, 0]) :
    (v.readAt (Elt F) (Rect.unit (s := S196x32) off S1x32.size inb).toLoadRect X : Vec F S1x32 .f32)
      = rowAt (v.read (Elt F) X) k := by
  subst hoff
  funext j
  unfold rowAt
  rw [dif_pos hk, View.readAt_eq_ld]
  refine View.ld_unit_apply_of _ _ _ _ _ _ fun a => ?_
  have h0 : (j 0).val = 0 := Nat.lt_one_iff.mp (j 0).isLt
  refine Fin.cases ?_ (fun b => Fin.cases ?_ (fun b => b.elim0) b) a
  · show k = k + (j 0).val
    omega
  · show (j 1).val = 0 + (j 1).val
    omega

/-- A store over row `k` changes that row alone. -/
theorem store_row (v : View sig .tc .vmem S196x32 .f32) (f : BufTy.Contents (Elt F) v.ty) (off : Fin 2 → ℕ)
    (inb : ∀ a, off a + S1x32.size a ≤ S196x32.size a) (k : ℕ) (hoff : off = ![k, 0]) (w : FVec F S1x32 .f32) (y : S196x32.Idx) :
    v.read (Elt F) (v.writes (Elt F) f [⟨Rect.unit (s := S196x32) off S1x32.size inb, w⟩]) y
      = if (y 0).val = k then w (ix2 0 (y 1)) else v.read (Elt F) f y := by
  by_cases h : (y 0).val = k
  · rw [if_pos h]
    refine View.read_writes_cons_rows_of_mem v f inb w [] y (ix2 0 (y 1)) hoff ?_ rfl
    rw [h]; rfl
  · rw [if_neg h]
    refine View.read_writes_cons_rows_of_not_mem (W := 1) v f inb w [] y hoff rfl ?_
    omega

/-- The stored row is the new running sum: its shape cast changes nothing. -/
theorem pay5_eq (a v : FVec F S1x32 .f32) : k1_pay5 a v = k1_pay4 a v := by
  unfold k1_pay5; exact shapeCast_self _ _

theorem pay8_eq (s a v : FVec F S1x32 .f32) : k1_pay8 s a v = addf s (k1_pay4 a v) := by
  unfold k1_pay8; exact shapeCast_self _ _

/-- The first loop's invariant before trip `k`: `t` as it was, the first `k` rows of `c` at their running sums, the carried
    value the running sum so far. -/
def inv1 (c : Dev nD) (arg3 arg4 : Memref sig .tc .vmem S196x32 .f32) (X : BufTy.Contents (Elt F) arg3.view.ty)
    (k : ℕ) (acc : FVec F S1x32 .f32) : sProp 𝕄 :=
  iprop((arg3.view.loc (c : Thread nD τ) ↦[arg3.view.set]{fullShare} X)
    ∗ (∃ f, (arg4.view.loc (c : Thread nD τ) ↦[arg4.view.set]{fullShare} f)
        ∗ ⌜∀ y : S196x32.Idx, (y 0).val < k → arg4.view.read (Elt F) f y = sums (arg3.view.read (Elt F) X) y⌝)
    ∗ ⌜acc = sumTo (arg3.view.read (Elt F) X) 0 k⌝)

/-- The second loop's, before trip `k`: the first `128 + k` rows of `c` at their running sums. -/
def inv2 (c : Dev nD) (arg3 arg4 : Memref sig .tc .vmem S196x32 .f32) (X : BufTy.Contents (Elt F) arg3.view.ty)
    (k : ℕ) (acc : FVec F S1x32 .f32) : sProp 𝕄 :=
  iprop((arg3.view.loc (c : Thread nD τ) ↦[arg3.view.set]{fullShare} X)
    ∗ (∃ f, (arg4.view.loc (c : Thread nD τ) ↦[arg4.view.set]{fullShare} f)
        ∗ ⌜∀ y : S196x32.Idx, (y 0).val < 128 + k → arg4.view.read (Elt F) f y = sums (arg3.view.read (Elt F) X) y⌝)
    ∗ ⌜acc = sumTo (arg3.view.read (Elt F) X) 128 k⌝)

set_option maxHeartbeats 1000000 in
/-- One trip of the first loop keeps its invariant. -/
theorem trip1 (c : Dev nD) (E : Set ℕ) (i : grid1.Coords) (arg1 : Memref sig .tc .vmem S32x1x196 .f32) (harg1 : arg1.IsWhole)
    (arg2 : Memref sig .tc .vmem S32x1x196 .f32) (harg2 : arg2.IsWhole) (arg3 : Memref sig .tc .vmem S196x32 .f32) (harg3 : arg3.IsWhole)
    (arg4 : Memref sig .tc .vmem S196x32 .f32) (harg4 : arg4.IsWhole) (X : BufTy.Contents (Elt F) arg3.view.ty)
    (k : Fin k1_t1_loop.trips) (acc : FVec F S1x32 .f32) :
    inv1 c arg3 arg4 X k.val acc ⊢ wp frame (wpE (defs₀ (F := F)) Variants.none c none) E
      (k1_t1_body i arg1 harg1 arg2 harg2 arg3 harg3 arg4 harg4 k acc) (inv1 c arg3 arg4 X (k.val + 1)) := by
  have hk : k.val < 128 := Nat.lt_of_lt_of_le k.isLt k1_t1_abs.2.1
  unfold k1_t1_body inv1
  iintro ⟨H3, ⟨%f, H4, %hf⟩, %hacc⟩
  sl_exec
  sl_step
  have hr : (arg3.view.readAt (Elt F) (Rect.unit (s := S196x32) (k1_off1 k) S1x32.size (k1_off1_inb k)).toLoadRect X : Vec F S1x32 .f32)
      = rowAt (arg3.view.read (Elt F) X) k.val := load_row _ _ _ _ _ (by omega) (k1_off1_eq k)
  have hs : k1_pay4 acc (arg3.view.readAt (Elt F) (Rect.unit (s := S196x32) (k1_off1 k) S1x32.size (k1_off1_inb k)).toLoadRect X)
      = sumTo (arg3.view.read (Elt F) X) 0 (k.val + 1) := by
    rw [hr, hacc, sumTo_succ, Nat.zero_add]
  isplitl [H3]; · iexact H3
  isplitl [H4]
  · iexists _
    isplitl [H4]; · iexact H4
    ipureintro
    intro y hy
    rw [pay5_eq, hs]
    refine (store_row _ _ _ _ k.val (k1_off1_eq k) _ y).trans ?_
    by_cases h : (y 0).val = k.val
    · rw [if_pos h]
      unfold sums
      rw [if_pos (by omega), h]
    · rw [if_neg h]
      exact hf y (by omega)
  ipureintro
  exact hs

set_option maxHeartbeats 1000000 in
/-- One trip of the second loop keeps its invariant. -/
theorem trip2 (c : Dev nD) (E : Set ℕ) (i : grid1.Coords) (arg1 : Memref sig .tc .vmem S32x1x196 .f32) (harg1 : arg1.IsWhole)
    (arg2 : Memref sig .tc .vmem S32x1x196 .f32) (harg2 : arg2.IsWhole) (arg3 : Memref sig .tc .vmem S196x32 .f32) (harg3 : arg3.IsWhole)
    (arg4 : Memref sig .tc .vmem S196x32 .f32) (harg4 : arg4.IsWhole) (X : BufTy.Contents (Elt F) arg3.view.ty)
    (k : Fin k1_t2_loop.trips) (acc : FVec F S1x32 .f32) :
    inv2 c arg3 arg4 X k.val acc ⊢ wp frame (wpE (defs₀ (F := F)) Variants.none c none) E
      (k1_t2_body i arg1 harg1 arg2 harg2 arg3 harg3 arg4 harg4 (sumTo (arg3.view.read (Elt F) X) 0 128) k acc)
      (inv2 c arg3 arg4 X (k.val + 1)) := by
  have hk : k.val < 68 := Nat.lt_of_lt_of_le k.isLt k1_t2_abs.2.1
  unfold k1_t2_body inv2
  iintro ⟨H3, ⟨%f, H4, %hf⟩, %hacc⟩
  sl_exec
  sl_step
  have hr : (arg3.view.readAt (Elt F) (Rect.unit (s := S196x32) (k1_off2 k) S1x32.size (k1_off2_inb k)).toLoadRect X : Vec F S1x32 .f32)
      = rowAt (arg3.view.read (Elt F) X) (k.val + 128) := load_row _ _ _ _ _ (by omega) (k1_off2_eq k)
  have hs : k1_pay4 acc (arg3.view.readAt (Elt F) (Rect.unit (s := S196x32) (k1_off2 k) S1x32.size (k1_off2_inb k)).toLoadRect X)
      = sumTo (arg3.view.read (Elt F) X) 128 (k.val + 1) := by
    rw [hr, hacc, sumTo_succ, Nat.add_comm k.val 128]
  isplitl [H3]; · iexact H3
  isplitl [H4]
  · iexists _
    isplitl [H4]; · iexact H4
    ipureintro
    intro y hy
    rw [pay8_eq, hs]
    refine (store_row _ _ _ _ (k.val + 128) (k1_off2_eq k) _ y).trans ?_
    by_cases h : (y 0).val = k.val + 128
    · rw [if_pos h]
      unfold sums
      rw [if_neg (by omega), h, Nat.add_sub_cancel]
    · rw [if_neg h]
      exact hf y (by omega)
  ipureintro
  exact hs

/-- What the body leaves in its output window from the block `x0` of its input window. -/
def out1_1 (x0 : Vec F S32x1x196 .f32) : Vec F S32x1x196 .f32 := k1_pay1 (k1_pay9 (sums (k1_pay2 x0)))

set_option maxHeartbeats 2000000 in
/-- The body on whole staging memrefs and whole scratch: it runs to the continuation holding the input as it was, the
    output at `out1_1` of the input, the scratch at something. -/
theorem sound_kernel1 (c : Dev nD) (E : Set ℕ) (i : grid1.Coords) (arg1 : Memref sig .tc .vmem S32x1x196 .f32) (harg1 : arg1.IsWhole)
    (arg2 : Memref sig .tc .vmem S32x1x196 .f32) (harg2 : arg2.IsWhole) (arg3 : Memref sig .tc .vmem S196x32 .f32) (harg3 : arg3.IsWhole)
    (arg4 : Memref sig .tc .vmem S196x32 .f32) (harg4 : arg4.IsWhole) (x0 : Vec F S32x1x196 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (out1_1 x0)
            ∗ (∃ d, owns (c : Thread nD τ) arg3 fullShare d) ∗ (∃ d, owns (c : Thread nD τ) arg4 fullShare d)) -∗ K ⟨⟩))
      ⊢ wp frame (wpE (defs₀ (F := F)) Variants.none c none) E (cc1__cdf_kernel i arg1 harg1 arg2 harg2 arg3 harg3 arg4 harg4) K := by
  simp only [cc1__cdf_kernel_eq_skeleton]; unfold cc1__cdf_kernel_skel
  simp only [k1_part1_eq_skeleton]
  unfold owns
  iintro ⟨⟨%f0, %hf0, H0⟩, ⟨%d1, %f1, -, H1⟩, ⟨%d2, %f2, -, H2⟩, ⟨%d3, %f3, -, H3⟩, Hk⟩
  subst hf0
  sl_exec
  have hX : (arg3.view.read (Elt F) (arg3.view.writes (Elt F) arg3.view.junk (sound_kernel1.sl.H2_1 c arg1 f0)) : Vec F S196x32 .f32)
      = k1_pay2 (arg1.view.read (Elt F) f0) := by
    rw [View.read_writes_junk_eq_canon]
    unfold sound_kernel1.sl.H2_1
    rw [View.canon_unit_zero (by decide +kernel)]
    congr 1
    exact View.ld_unit_zero (by decide +kernel) _ _
  generalize hXe : arg3.view.writes (Elt F) arg3.view.junk (sound_kernel1.sl.H2_1 c arg1 f0) = X at hX
  sl_for (inv1 c arg3 arg4 X) $$ [H2 H3]
  case region => exact fun k acc => trip1 c E i arg1 harg1 arg2 harg2 arg3 harg3 arg4 harg4 X k acc
  · unfold inv1
    isplitl [H2]; · iexact H2
    isplitl [H3]
    · iexists _; isplitl [H3]; · iexact H3
      ipureintro; exact fun y hy => absurd hy (Nat.not_lt_zero _)
    ipureintro; rfl
  iintro %acc HI
  unfold inv1
  icases HI with ⟨H2, ⟨%g, H3, %hg⟩, %hacc⟩
  have e1 : Scf.trips k1_t1_loop.lb k1_t1_loop.ub k1_t1_loop.st = 128 := by decide +kernel
  rw [e1] at hg hacc
  subst hacc
  sl_for (inv2 c arg3 arg4 X) $$ [H2 H3]
  case region => exact fun k acc => trip2 c E i arg1 harg1 arg2 harg2 arg3 harg3 arg4 harg4 X k acc
  · unfold inv2
    isplitl [H2]; · iexact H2
    isplitl [H3]
    · iexists _; isplitl [H3]; · iexact H3
      ipureintro; exact fun y hy => hg y hy
    ipureintro; rfl
  iintro %acc HI
  unfold inv2
  icases HI with ⟨H2, ⟨%g', H3, %hg'⟩, %hacc'⟩
  have e2 : Scf.trips k1_t2_loop.lb k1_t2_loop.ub k1_t2_loop.st = 68 := by decide +kernel
  rw [e2] at hg' hacc'
  sl_exec
  sl_step
  have hc : (arg4.view.read (Elt F) g' : Vec F S196x32 .f32) = sums (k1_pay2 (arg1.view.read (Elt F) f0)) := by
    rw [← hX]; funext y; exact hg' y (y 0).isLt
  iapply Hk
  isplitl [H0]
  · iexists f0; isplitr; · ipureintro; rfl
    iexact H0
  isplitl [H1]
  · iexists _; isplitr
    swap; · iexact H1
    ipureintro
    refine (View.read_writes_eq_canon _ _ _ fun y => ⟨_, List.mem_singleton_self _, View.mem_set_unit_zero (by decide +kernel) inb_S32x1x196_S32x1x196_0_0_0 y⟩).trans ?_
    refine (View.canon_unit_zero (by decide +kernel) _ _).trans ?_
    unfold out1_1
    rw [← hc]
    show k1_pay1 (sound_kernel1.sl.r c arg4 g') = k1_pay1 (k1_pay9 (arg4.view.read (Elt F) g'))
    unfold sound_kernel1.sl.r
    congr 2
    exact View.ld_unit_zero (S := S196x32) (off := ![0, 0]) (by decide +kernel) inb_S196x32_S196x32_0_0 _
  isplitl [H2]
  · iexists _, _; isplitr
    swap; · iexact H2
    ipureintro; rfl
  iexists _, _; isplitr
  swap; · iexact H3
  ipureintro; rfl

end Cert.KernelIdeal.Run

end
-- ==== Proof.KernelIdeal.Cdf.lean ====
/- The cumulative-sum call (one point): its proof data over the body of `Scan`. -/
module

public import proofs.«01_k».proof.Proof.KernelIdeal.Scan
public import Idealize.ShloMosaic.Lib.Pipeline.FrameBody

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 1 of @main: custom_call 1, `cc1__cdf_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data with the array of `V`
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- A whole scratch buffer held as a memref is the buffer held. -/
theorem owns_scratch0 (c : Dev nD) (X : Vec F S196x32 .f32) :
    (owns (c : Thread nD τ) (Memref.whole cc1_scratch0) fullShare X : sProp 𝕄) = (((c : Thread nD τ).loc cc1_scratch0) ↦{fullShare} X) :=
  owns_whole (c : Thread nD τ) cc1_scratch0 fullShare X
theorem owns_scratch1 (c : Dev nD) (X : Vec F S196x32 .f32) :
    (owns (c : Thread nD τ) (Memref.whole cc1_scratch1) fullShare X : sProp 𝕄) = (((c : Thread nD τ).loc cc1_scratch1) ↦{fullShare} X) :=
  owns_whole (c : Thread nD τ) cc1_scratch1 fullShare X

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, show (dat1 V c).Φ t.castSucc = Pipeline.ΦA spec1 c from rfl]
  unfold Pipeline.ΦA
  rw [scopedRest1_eq]
  iintro ⟨⟨HS, Hp⟩, Ho, ⟨%d0, H0⟩, ⟨%d1, H1⟩⟩
  icases HS with ⟨S0, S1, S2, S3, S4, S5, ⟨%u, Hu⟩, ⟨%v, Hv⟩, S8⟩
  iapply (sound_kernel1 c Set.univ (grid1.coords t) _ _ _ _ (Memref.whole cc1_scratch0) (Memref.isWhole_whole _) (Memref.whole cc1_scratch1) (Memref.isWhole_whole _) (iblk1 V c 0 t) _)
  isplitl [H0]; · iexact H0
  isplitl [H1]; · iexists _; iexact H1
  isplitl [Hu]
  · iexists u; rw [owns_scratch0]; iexact Hu
  isplitl [Hv]
  · iexists v; rw [owns_scratch1]; iexact Hv
  iintro ⟨H0, H1, ⟨%u', Hu⟩, ⟨%v', Hv⟩⟩
  isplitl [S0 S1 S2 S3 S4 S5 Hu Hv S8 Hp]
  · isplitr [Hp]
    · isplitl [S0]; · iexact S0
      isplitl [S1]; · iexact S1
      isplitl [S2]; · iexact S2
      isplitl [S3]; · iexact S3
      isplitl [S4]; · iexact S4
      isplitl [S5]; · iexact S5
      isplitl [Hu]
      · iexists u'; rw [← owns_scratch0]; iexact Hu
      isplitl [Hv]
      · iexists v'; rw [← owns_scratch1]; iexact Hv
      iexact S8
    iexact Hp
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.KernelIdeal.Pick.lean ====
/- The picking call (grid of 32 points): what one point leaves in its output block, and that the body does so. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 2 of @main: custom_call 2, `cc2__pick_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data with the array of `V`
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, for any proof data with the array of `V`
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, for any proof data with the array of `V`
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, for any proof data with the array of `V`
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x1x196 := Rect.unit (s := S1x1x196) ![0, 0, 0] S1x1x196.size inb_S1x1x196_S1x1x196_0_0_0
abbrev r2_1 : Rect S1x197x384 := Rect.unit (s := S1x197x384) ![0, 0, 0] S1x197x384.size inb_S1x197x384_S1x197x384_0_0_0
abbrev r2_2 : Rect S1x196 := Rect.unit (s := S1x196) ![0, 0] S1x196.size inb_S1x196_S1x196_0_0

/-! ## What the body leaves in each output window's buffer -/

/-- Window 4's staging buffer after the body, from the input windows' blocks: its 1 store as pieces, LAST
    FIRST. -/
def out2_4 (x0 : Vec F S1x1x196 .f32) (x1 : Vec F S1x1x196 .f32) (x2 : Vec F S1x196 .f32) (x3 : Vec F S1x197x384 .f32) : Vec F S1x197x384 .f32 :=
  View.canon [⟨r2_1, k2_pay1 (k2_pay2 (View.ld x3 r2_1)) (k2_pay3 (View.ld x0 r2_0) (View.ld x1 r2_0) (View.ld x2 r2_2))⟩]

/-- Its stores tile the buffer (checked by evaluation), so they cover it. -/
theorem cover2_4 (p0 : Vec F S1x197x384 .f32) (y : S1x197x384.Idx) :
    ∃ pc ∈ ([⟨r2_1, p0⟩] : List (View.Piece (Elt F) S1x197x384 .f32)), y ∈ pc.1.set :=
  View.cover_of_tiled [⟨r2_1, p0⟩] S1x197x384.size (by rfl) y

/-! ## The body's triple -/

set_option maxHeartbeats 1000000 in
/-- The kernel body on whole staging memrefs, the inputs' at read contents `xW` and the outputs' at anything, runs to
    the continuation holding the inputs' as they were and each output's at `out2_W` of the inputs': the body is
    its skeleton, which is run through every part. -/
theorem sound_kernel2 (c : Dev nD) (E : Set ℕ) (i : grid2.Coords) (arg1 : Memref sig .tc .vmem S1x1x196 .f32) (harg1 : arg1.IsWhole) (arg2 : Memref sig .tc .vmem S1x1x196 .f32) (harg2 : arg2.IsWhole) (arg3 : Memref sig .tc .vmem S1x196 .f32) (harg3 : arg3.IsWhole) (arg4 : Memref sig .tc .vmem S1x197x384 .f32) (harg4 : arg4.IsWhole) (arg5 : Memref sig .tc .vmem S1x197x384 .f32) (harg5 : arg5.IsWhole)
    (x0 : Vec F S1x1x196 .f32) (x1 : Vec F S1x1x196 .f32) (x2 : Vec F S1x196 .f32) (x3 : Vec F S1x197x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__pick_kernel i arg1 harg1 arg2 harg2 arg3 harg3 arg4 harg4 arg5 harg5) K := by
  simp only [cc2__pick_kernel_eq_skeleton]; unfold cc2__pick_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.KernelIdeal.Run.lean ====
/- The whole run of the kernel program: the host operations, then the three calls one after the other; what each leaves
   in the buffers, and that the arguments end as they were. -/
module

public import proofs.«01_k».proof.Proof.KernelIdeal.Rank
public import proofs.«01_k».proof.Proof.KernelIdeal.Cdf
public import proofs.«01_k».proof.Proof.KernelIdeal.Pick
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_cst, main_v11, main_v12, main_cst_0, main_v13, main_cst_1, main_v14, main_v15, main_v16, main_v17, main_v18, main_v19, main_cst_2, main_v20, main_v21, main_v22, main_v23, main_v24, main_v25]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_cst, main_call0_v1, main_v26]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_cst_3, main_v55, main_v56, main_v57, main_v58]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .region (reg2 m ρ) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every weakly fair execution of @main terminates without a fault,
    the argument arrays are as launched, the selected tokens are what the third region's write-backs leave, and every
    counter is zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v61) = W6 m ρ c (Proc.devRef .tc main_v61))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       h c _ (mem_uc main_v61 (by decide))⟩), funext fun g => hz g (.inr (no_unscoped g.2))⟩)

/-- The frame claim: the run without the value of the result. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => let ⟨h0, h1, h2, h3, h4, h5, _⟩ := h.1 c; ⟨h0, h1, h2, h3, h4, h5⟩, h.2⟩) (run m ρ)

end Cert.KernelIdeal.Run

end
-- ==== Proof.KernelIdeal.Twin.lean ====
/- The frame of the kernel program as printed, at the machine's own floats: the same program text as the one whose run
   `Run` proves at any float type. -/
module

public import proofs.«01_k».proof.Proof.KernelIdeal.Run
public import proofs.«01_k».proof.Proof.Gen.Kernel
public import proofs.«01_k».proof.Defs

@[expose] public section

namespace Cert.KernelIdeal.Run

open Cert.KernelIdeal
open Idealize.ShloMosaic Idealize.ShloMosaic.TcCoe Idealize.SL.Sem

/-- The frame claim of the program of `Run` read at the machine's floats. -/
def BitsFrame : Prop := ∀ (m : (ℓ : Loc nD τ sig) → Buf (Elt Bits) ℓ) (ρ : Dev nD → PrngReg), True →
   θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem bitsFrame : BitsFrame := fun m ρ _ => frame_claim (F := Bits) m ρ

/-- The two printed programs are the same definition by definition. -/
theorem bitsFrame_eq : BitsFrame = @Cert.quiescent_Kernel Cert.Kernel.Gen.facts := by chain_rfl

/-- The frame of the kernel as printed. -/
theorem kernel_frame : @Cert.quiescent_Kernel Cert.Kernel.Gen.facts := bitsFrame_eq ▸ bitsFrame

end Cert.KernelIdeal.Run

end
-- ==== Proof.Math.Order.lean ====
/- The mathematics of the selection, row by row: the stable order of a row of scores, its running sums, the first nearest one. -/
module

public import Idealize.ShloMosaic.Lib.Routing.SortLink
public import Idealize.ShloMosaic.PureOps.Ideal

@[expose] public section

noncomputable section

namespace Cert.Select

open Idealize.ShloMosaic

variable {n : ℕ}

/-! ## The stable order -/

/-- Position `k` comes before position `i`: a smaller score, or an equal one further left. -/
def Before (s : Fin n → EReal) (k i : Fin n) : Prop := s k < s i ∨ (s k = s i ∧ k < i)

open Classical in
/-- How many positions come before `i`. -/
def rank (s : Fin n → EReal) (i : Fin n) : ℕ := (Finset.univ.filter fun k => Before s k i).card

theorem Before.irrefl (s : Fin n → EReal) (i : Fin n) : ¬ Before s i i := by
  rintro (h | ⟨_, h⟩) <;> exact lt_irrefl _ h

theorem Before.trans {s : Fin n → EReal} {a b c : Fin n} (h : Before s a b) (h' : Before s b c) : Before s a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem Before.total (s : Fin n → EReal) {a b : Fin n} (h : a ≠ b) : Before s a b ∨ Before s b a := by
  rcases lt_trichotomy (s a) (s b) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

theorem rank_lt_rank {s : Fin n → EReal} {a b : Fin n} (h : Before s a b) : rank s a < rank s b := by
  classical
  refine Finset.card_lt_card ⟨fun k hk => ?_, fun hs => ?_⟩
  · rw [Finset.mem_filter] at hk ⊢
    exact ⟨hk.1, hk.2.trans h⟩
  · exact Before.irrefl s a (Finset.mem_filter.mp (hs (Finset.mem_filter.mpr ⟨Finset.mem_univ a, h⟩))).2

theorem rank_lt_iff (s : Fin n → EReal) (a b : Fin n) : rank s a < rank s b ↔ Before s a b := by
  refine ⟨fun h => ?_, rank_lt_rank⟩
  by_cases e : a = b
  · subst e; exact absurd h (lt_irrefl _)
  · exact (Before.total s e).resolve_right fun h' => absurd (rank_lt_rank h') (not_lt.mpr h.le)

theorem rank_injective (s : Fin n → EReal) : Function.Injective (rank s) := fun a b h => by
  by_contra e
  rcases Before.total s e with h' | h' <;> exact absurd (rank_lt_rank h') (by rw [h]; exact lt_irrefl _)

theorem rank_lt (s : Fin n → EReal) (i : Fin n) : rank s i < n := by
  classical
  have h : (Finset.univ.filter fun k => Before s k i) ⊂ Finset.univ :=
    Finset.ssubset_univ_iff.mpr fun e =>
      Before.irrefl s i (Finset.mem_filter.mp ((Finset.ext_iff.mp e i).mpr (Finset.mem_univ i))).2
  simpa [rank] using Finset.card_lt_card h

/-- The ranks are a permutation of the positions. -/
def rankEquiv (s : Fin n → EReal) : Fin n ≃ Fin n :=
  Equiv.ofBijective (fun i => ⟨rank s i, rank_lt s i⟩)
    (Finite.injective_iff_bijective.mp fun _ _ h => rank_injective s (congrArg Fin.val h))

/-- The position of rank `r`. -/
def order (s : Fin n → EReal) (r : Fin n) : Fin n := (rankEquiv s).symm r

theorem rank_order (s : Fin n → EReal) (r : Fin n) : rank s (order s r) = r.val :=
  congrArg Fin.val ((rankEquiv s).apply_symm_apply r)

theorem rank_eq_iff (s : Fin n → EReal) (i r : Fin n) : rank s i = r.val ↔ i = order s r :=
  ⟨fun h => rank_injective s (h.trans (rank_order s r).symm), fun h => h ▸ rank_order s r⟩

/-- A stable sort of an ascending list by one relation is its stable sort by another that says the same of every later element against an earlier one. -/
theorem stableSort_ascending (R R' : Fin n → Fin n → Bool) (h : ∀ a b, a < b → R b a = R' b a) (l : List (Fin n))
    (hl : l.Pairwise (· < ·)) : stableSort R l = stableSort R' l := by
  induction l with
  | nil => rfl
  | cons a l ih =>
    unfold stableSort
    rw [ih hl.of_cons]
    exact insertBefore_congr R R' a _ fun b hb =>
      h a b ((List.pairwise_cons.mp hl).1 b ((perm_stableSort R' l).mem_iff.mp hb))

/-- The stable sort of the positions by their scores puts at `r` the position of rank `r`. -/
theorem sortedFrom_eq_order (s : Fin n → EReal) (r : Fin n) :
    sortedFrom (fun a b => decide (s a < s b)) r = order s r := by
  have e : sortPositions n (fun a b => decide (s a < s b)) = sortPositions n (fun a b => decide (rank s a < rank s b)) := by
    refine stableSort_ascending _ _ (fun a b hab => ?_) _ (List.pairwise_lt_finRange n)
    rw [decide_eq_decide, rank_lt_iff]
    exact ⟨Or.inl, fun h => h.resolve_right fun h' => absurd h'.2 (not_lt.mpr hab.le)⟩
  have hs : (List.ofFn (order s)).Pairwise fun a b => rank s a < rank s b := by
    rw [List.pairwise_ofFn]
    intro i j hij
    rw [rank_order, rank_order]; exact hij
  have hp : (List.ofFn (order s)).Perm (List.finRange n) := Equiv.Perm.ofFn_comp_perm (rankEquiv s).symm (fun i => i)
  have h := Routing.sortedFrom_eq (rank s) (rank_injective s) _ hp hs r (by rw [List.length_ofFn]; exact r.isLt)
  rw [List.getElem_ofFn] at h
  rw [← h]
  unfold sortedFrom
  rw [List.get_of_eq e]
  rfl

/-! ## Sums against an indicator -/

theorem sum_indicator_mul (a : Fin n) (f : Fin n → EReal) : (∑ k, (if k = a then (1 : EReal) else 0) * f k) = f a := by
  simp

theorem sum_mul_indicator (a : Fin n) (f : Fin n → EReal) : (∑ k, f k * (if k = a then (1 : EReal) else 0)) = f a := by
  simp

theorem sum_indicator_eq_rank (s : Fin n → EReal) [∀ k i, Decidable (Before s k i)] (i : Fin n) :
    (∑ k, if Before s k i then (1 : EReal) else 0) = ((rank s i : ℝ) : EReal) := by
  rw [Finset.sum_boole]
  unfold rank
  simp only [EReal.coe_natCast]
  congr 2
  ext k; simp

/-! ## Running sums -/

/-- The running sum up to and with position `r`. -/
def cum (t : Fin n → EReal) (r : Fin n) : EReal := ∑ k ∈ Finset.univ.filter (· ≤ r), t k

/-- The running sums, rescaled to run from 0 to 1. -/
def rescale (c : Fin n → EReal) (r : Fin n) : EReal :=
  Ideal.div (c r - Finset.univ.fold min ⊤ c) (Finset.univ.fold max ⊥ c - Finset.univ.fold min ⊤ c)

/-! ## The first smallest -/

/-- `j` is the first position of a smallest value. -/
def IsFirst (d : Fin n → EReal) (j : Fin n) : Prop := ∀ k, d j ≤ d k ∧ (d k = d j → j ≤ k)

theorem IsFirst.unique {d : Fin n → EReal} {i j : Fin n} (hi : IsFirst d i) (hj : IsFirst d j) : i = j :=
  have e : d i = d j := le_antisymm (hi j).1 (hj i).1
  le_antisymm ((hi j).2 e.symm) ((hj i).2 e)

theorem exists_isFirst [NeZero n] (d : Fin n → EReal) : ∃ j, IsFirst d j := by
  classical
  obtain ⟨m, -, hm⟩ := Finset.exists_min_image Finset.univ d Finset.univ_nonempty
  have hne : (Finset.univ.filter fun k => d k = d m).Nonempty := ⟨m, by simp⟩
  refine ⟨(Finset.univ.filter fun k => d k = d m).min' hne, fun k => ?_⟩
  have e : d ((Finset.univ.filter fun k => d k = d m).min' hne) = d m := (Finset.mem_filter.mp (Finset.min'_mem _ hne)).2
  rw [e]
  exact ⟨hm k (Finset.mem_univ k), fun h => Finset.min'_le _ _ (by simp [h])⟩

/-- The first position of a smallest value. -/
def first [NeZero n] (d : Fin n → EReal) : Fin n := (exists_isFirst d).choose

theorem first_spec [NeZero n] (d : Fin n → EReal) : IsFirst d (first d) := (exists_isFirst d).choose_spec

theorem first_eq [NeZero n] {d : Fin n → EReal} {j : Fin n} (h : IsFirst d j) : first d = j := (first_spec d).unique h

theorem fold_min_eq [NeZero n] (d : Fin n → EReal) : Finset.univ.fold min ⊤ d = d (first d) := by
  refine le_antisymm ?_ ?_
  · exact Finset.fold_min_le _ |>.mpr (Or.inr ⟨first d, Finset.mem_univ _, le_rfl⟩)
  · exact Finset.le_fold_min _ |>.mpr ⟨le_top, fun k _ => (first_spec d k).1⟩

/-! ## One row's selection -/

/-- The distance of a sampling point `y` from each of a row's rescaled running sums. -/
def gap (c : Fin n → EReal) (y : EReal) (j : Fin n) : EReal := max (y - c j) (-(y - c j))

/-- The rescaled running sums of a row of scores taken in their order. -/
def levels (s : Fin n → EReal) : Fin n → EReal := rescale (cum fun r => s (order s r))

/-- The token a sampling point `y` picks. -/
def chosen [NeZero n] (s : Fin n → EReal) (y : EReal) : Fin n := order s (first (gap (levels s) y))

end Cert.Select

end
-- ==== Proof.Math.Bits.lean ====
/- Comparisons, indicators and small numbers, read as propositions and extended reals. -/
module

public import proofs.«01_k».proof.Proof.Math.Order
public import Idealize.ShloMosaic.Lib.Pointwise

@[expose] public section

noncomputable section

namespace Cert.Select

open Idealize.ShloMosaic

/-- A truth value widened and made a float is the indicator. -/
theorem sitofp_ofBool (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p
  · simp [h]
  · simp [h]

/-- A small number made a float is itself. -/
theorem sitofp_ofNat (k : ℕ) (h : k < 1000) : FloatOps.sitofp (F := Ideal) .f32 (BitVec.ofNat 32 k) = ((k : ℝ) : EReal) := by
  show (((BitVec.ofNat 32 k).toInt : ℝ) : EReal) = _
  have : (BitVec.ofNat 32 k).toInt = (k : ℤ) := by
    rw [BitVec.toInt_eq_toNat_of_lt] <;> rw [BitVec.toNat_ofNat, Nat.mod_eq_of_lt (by omega)]; omega
  rw [this]; simp

theorem ofNat_inj (i j : ℕ) (hi : i < 1000) (hj : j < 1000) : BitVec.ofNat 32 i = BitVec.ofNat 32 j ↔ i = j := by
  constructor
  · intro h
    have := congrArg BitVec.toNat h
    rwa [BitVec.toNat_ofNat, BitVec.toNat_ofNat, Nat.mod_eq_of_lt (by omega), Nat.mod_eq_of_lt (by omega)] at this
  · rintro rfl; rfl

theorem cmpi_eq_ofNat (i j : ℕ) (hi : i < 1000) (hj : j < 1000) :
    IntOp.cmpi .eq (BitVec.ofNat 32 i) (BitVec.ofNat 32 j) = BitVec.ofBool (decide (i = j)) := by
  unfold IntOp.cmpi
  show BitVec.ofBool (BitVec.ofNat 32 i == BitVec.ofNat 32 j) = _
  by_cases h : i = j
  · subst h; simp
  · have h' : BitVec.ofNat 32 i ≠ BitVec.ofNat 32 j := fun e => h ((ofNat_inj i j hi hj).mp e)
    rw [beq_false_of_ne h']; simp [h]

theorem toInt_ofNat (k : ℕ) (h : k < 1000) : (BitVec.ofNat 32 k).toInt = (k : ℤ) := by
  rw [BitVec.toInt_eq_toNat_of_lt] <;> rw [BitVec.toNat_ofNat, Nat.mod_eq_of_lt (by omega)]; omega

theorem cmpi_slt_ofNat (i j : ℕ) (hi : i < 1000) (hj : j < 1000) :
    IntOp.cmpi .slt (BitVec.ofNat 32 i) (BitVec.ofNat 32 j) = BitVec.ofBool (decide (i < j)) := by
  unfold IntOp.cmpi
  show BitVec.ofBool ((BitVec.ofNat 32 i).slt (BitVec.ofNat 32 j)) = _
  rw [BitVec.slt_eq_decide, toInt_ofNat i hi, toInt_ofNat j hj]
  simp

theorem ori_ofBool (p q : Prop) [Decidable p] [Decidable q] :
    IntOp.ori (BitVec.ofBool (decide p)) (BitVec.ofBool (decide q)) = BitVec.ofBool (decide (p ∨ q)) := by
  by_cases p <;> by_cases q <;> simp_all [IntOp.ori]

theorem andi_ofBool (p q : Prop) [Decidable p] [Decidable q] :
    IntOp.andi (BitVec.ofBool (decide p)) (BitVec.ofBool (decide q)) = BitVec.ofBool (decide (p ∧ q)) := by
  by_cases p <;> by_cases q <;> simp_all [IntOp.andi]

theorem select_ofBool {α : Type} (p : Prop) [Decidable p] (a b : α) :
    Scalar.select (BitVec.ofBool (decide p)) a b = if p then a else b := by
  by_cases p <;> simp_all [Scalar.select]

theorem natReal_inj (i j : ℕ) : (((i : ℝ) : EReal) = ((j : ℝ) : EReal)) ↔ i = j := by
  rw [EReal.coe_eq_coe_iff, Nat.cast_inj]

/-- A row multiplied by the identity and summed over the columns. -/
theorem sum_eye_right {n : ℕ} (hn : n ≤ 1000) (f : Fin n → EReal) (r : Fin n) :
    (∑ x : Fin n, f x * FloatOps.sitofp (F := Ideal) .f32
      (BitVec.setWidth 32 (IntOp.cmpi .eq (BitVec.ofNat 32 x.val) (BitVec.ofNat 32 r.val)))) = f r := by
  refine Eq.trans (Finset.sum_congr rfl fun x _ => ?_) (sum_mul_indicator r f)
  have := x.isLt; have := r.isLt
  rw [cmpi_eq_ofNat _ _ (by omega) (by omega), sitofp_ofBool]
  simp only [Fin.ext_iff]

/-- The same, the identity's two coordinates in the other order. -/
theorem sum_eye_left {n : ℕ} (hn : n ≤ 1000) (f : Fin n → EReal) (r : Fin n) :
    (∑ x : Fin n, f x * FloatOps.sitofp (F := Ideal) .f32
      (BitVec.setWidth 32 (IntOp.cmpi .eq (BitVec.ofNat 32 r.val) (BitVec.ofNat 32 x.val)))) = f r := by
  refine Eq.trans (Finset.sum_congr rfl fun x _ => ?_) (sum_mul_indicator r f)
  have := x.isLt; have := r.isLt
  rw [cmpi_eq_ofNat _ _ (by omega) (by omega), sitofp_ofBool]
  simp only [Fin.ext_iff, eq_comm]

/-- The identity's row on the left of the product. -/
theorem eye_sum {n : ℕ} (hn : n ≤ 1000) (f : Fin n → EReal) (r : Fin n) :
    (∑ x : Fin n, FloatOps.sitofp (F := Ideal) .f32
      (BitVec.setWidth 32 (IntOp.cmpi .eq (BitVec.ofNat 32 r.val) (BitVec.ofNat 32 x.val))) * f x) = f r := by
  refine Eq.trans (Finset.sum_congr rfl fun x _ => mul_comm _ _) (sum_eye_left hn f r)

theorem ofBits_top : Ideal.ofBits .f32 0x7F800000#32 = ⊤ := by simp [Ideal.ofBits, Ideal.ieee]

theorem ofBits_bot : Ideal.ofBits .f32 0xFF800000#32 = ⊥ := by simp [Ideal.ofBits, Ideal.ieee]

theorem toInt_minsi (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.mp h)]

/-- A signed minimum of words is the minimum of their numbers. -/
theorem toInt_fold_minsi {ι : Type} (S : Finset ι) (a : BitVec 32) (f : ι → BitVec 32) :
    (S.fold IntOp.minsi a f).toInt = S.fold min a.toInt fun i => (f i).toInt := by
  classical
  induction S using Finset.induction_on with
  | empty => rfl
  | insert i S hi ih =>
    rw [Finset.fold_insert hi, Finset.fold_insert hi, ← ih, toInt_minsi]

/-- The least position among those whose value is the smallest. -/
theorem fold_minsi_eq_first {n : ℕ} [NeZero n] (hn : n < 1000) (d : Fin n → EReal) [DecidableEq EReal] :
    Finset.univ.fold IntOp.minsi (2147483647#32) (fun x : Fin n => if d x = Finset.univ.fold min ⊤ d then BitVec.ofNat 32 x.val else BitVec.ofNat 32 n)
      = BitVec.ofNat 32 (first d).val := by
  refine BitVec.eq_of_toInt_eq ?_
  have hv : ∀ x : Fin n, x.val < 1000 := fun x => lt_trans x.isLt hn
  rw [toInt_fold_minsi, toInt_ofNat _ (hv _), fold_min_eq]
  refine le_antisymm (Finset.fold_min_le _ |>.mpr (Or.inr ⟨first d, Finset.mem_univ _, ?_⟩)) (Finset.le_fold_min _ |>.mpr ⟨?_, fun k _ => ?_⟩)
  · rw [if_pos rfl, toInt_ofNat _ (hv _)]
  · show ((first d).val : ℤ) ≤ 2147483647
    have := hv (first d); omega
  · by_cases h : d k = d (first d)
    · rw [if_pos h, toInt_ofNat _ (hv _)]
      exact_mod_cast (first_spec d k).2 h
    · rw [if_neg h, toInt_ofNat _ hn]
      have := (first d).isLt; omega

end Cert.Select

end
-- ==== Proof.KernelIdeal.Tiles.lean ====
/- The three kernels' arithmetic on one block, at an index, as the row mathematics. -/
module

public import proofs.«01_k».proof.Proof.Gen.KernelIdeal.Skeleton
public import proofs.«01_k».proof.Proof.Math.Bits

@[expose] public section

set_option maxRecDepth 16384

noncomputable section

namespace Cert.KernelIdeal.Val

open Cert.KernelIdeal Cert.KernelIdeal.Gen Idealize.ShloMosaic Cert.Select

/-! ## The first kernel -/

/-- The permutation matrix that orders a row: a one at row `r`, column `l` where `l` is the position of rank `r`. -/
theorem pay0_5 (v : Vec Ideal S1x1x196 .f32) (r l : Fin 196) : k0_pay5 (F := Ideal) v (ix2 r l) = if l = order (fun k => v (ix3 0 0 k)) r then 1 else 0 := by
  classical
  pointwise [k0_pay5, k0_pay4, k0_pay3]
  rw [sum_eye_right (by norm_num)]
  have hr : ∀ x : Fin 196, x.val < 1000 := fun x => lt_trans x.isLt (by norm_num)
  simp only [sum_eye_left (by norm_num : (196 : ℕ) ≤ 1000) (fun k => v (ix3 0 0 k)), cmpi_slt_ofNat _ _ (hr _) (hr _), andi_ofBool, ori_ofBool,
    sitofp_ofBool, sitofp_ofNat _ (hr _)]
  have h := sum_indicator_eq_rank (fun k => v (ix3 0 0 k)) l
  unfold Before at h
  simp only [Fin.lt_def] at h
  rw [h]
  simp only [natReal_inj, rank_eq_iff]

/-- A column turned into a row. -/
theorem pay0_1 (v : Vec Ideal S196x1 .f32) (r : Fin 196) : k0_pay1 (F := Ideal) v (ix3 0 0 r) = v (ix2 r 0) := by
  pointwise [k0_pay1]
  exact sum_eye_right (by norm_num) (fun k => v (ix2 k 0)) r

/-- A column turned into a row. -/
theorem pay0_2 (v : Vec Ideal S196x1 .f32) (r : Fin 196) : k0_pay2 (F := Ideal) v (ix3 0 0 r) = v (ix2 r 0) := by
  pointwise [k0_pay2]
  exact sum_eye_right (by norm_num) (fun k => v (ix2 k 0)) r

/-- The scores in their order. -/
theorem pay0_7 (v : Vec Ideal S1x1x196 .f32) (r : Fin 196) : k0_pay7 (F := Ideal) v (ix2 r 0) = v (ix3 0 0 (order (fun k => v (ix3 0 0 k)) r)) := by
  pointwise [k0_pay7, k0_pay4, k0_pay3]
  simp only [pay0_5]
  exact sum_indicator_mul _ fun k => v (ix3 0 0 k)

/-- The positions in their order. -/
theorem pay0_6 (v : Vec Ideal S1x1x196 .f32) (r : Fin 196) : k0_pay6 (F := Ideal) v (ix2 r 0) = (((order (fun k => v (ix3 0 0 k)) r).val : ℝ) : EReal) := by
  pointwise [k0_pay6]
  simp only [pay0_5, sum_indicator_mul, sitofp_ofNat _ (lt_trans (Fin.isLt _) (by norm_num : 196 < 1000))]

/-! ## The second kernel -/

theorem pay1_1 (v : Vec Ideal S32x196 .f32) (b : Fin 32) (t : Fin 196) : k1_pay1 (F := Ideal) v (ix3 b 0 t) = v (ix2 b t) := by
  pointwise [k1_pay1]

/-- The scores transposed. -/
theorem pay1_2 (v : Vec Ideal S32x1x196 .f32) (t : Fin 196) (b : Fin 32) : k1_pay2 (F := Ideal) v (ix2 t b) = v (ix3 b 0 t) := by
  pointwise [k1_pay2]
  exact eye_sum (by norm_num) (fun k => v (ix3 b 0 k)) t

/-- The running sums rescaled and transposed back. -/
theorem pay1_9 (g : Vec Ideal S196x32 .f32) (b : Fin 32) (t : Fin 196) :
    k1_pay9 (F := Ideal) g (ix2 b t) = rescale (fun r => g (ix2 r b)) t := by
  pointwise [k1_pay9]
  rw [ofBits_top, ofBits_bot]
  exact eye_sum (by norm_num) (fun x => rescale (fun r => g (ix2 r x)) t) b

/-! ## The third kernel -/

/-- The entry of the position row at the first nearest level. -/
theorem pay2_3 (a b : Vec Ideal S1x1x196 .f32) (y : Vec Ideal S1x196 .f32) (t : Fin 196) :
    k2_pay3 (F := Ideal) a b y (ix1 t) = b (ix3 0 0 (first (gap (fun j => a (ix3 0 0 j)) (y (ix2 0 t))))) := by
  classical
  pointwise [k2_pay3]
  rw [sum_eye_left (by norm_num) (fun k => y (ix2 0 k)) t, ofBits_top]
  have hv : ∀ x : Fin 196, x.val < 1000 := fun x => lt_trans x.isLt (by norm_num)
  have h := fold_minsi_eq_first (by norm_num) (gap (fun j : Fin 196 => a (ix3 0 0 j)) (y (ix2 0 t)))
  refine Eq.trans (Finset.sum_congr rfl fun x _ => congrArg (· * b (ix3 0 0 x)) ?_)
    (sum_indicator_mul (first (gap (fun j : Fin 196 => a (ix3 0 0 j)) (y (ix2 0 t)))) fun k => b (ix3 0 0 k))
  rw [sitofp_ofBool]
  refine if_congr ?_ rfl rfl
  rw [sitofp_ofNat _ (hv x)]
  generalize hw : Finset.fold IntOp.minsi _ _ _ = w
  have e : w = BitVec.ofNat 32 (first (gap (fun j : Fin 196 => a (ix3 0 0 j)) (y (ix2 0 t)))).val := hw.symm.trans h
  rw [e, sitofp_ofNat _ (hv _), natReal_inj, Fin.ext_iff]

/-- The token rows taken by a one-hot product: the class token first. -/
theorem pay2_1_zero (raw : Vec Ideal S1x197x384 .f32) (f : Vec Ideal S196 .f32) (d : Fin 384) :
    k2_pay1 (F := Ideal) (k2_pay2 raw) f (ix3 0 0 d) = raw (ix3 0 0 d) := by
  pointwise [k2_pay1, k2_pay2]
  have hv : ∀ x : Fin 197, x.val < 1000 := fun x => lt_trans x.isLt (by norm_num)
  refine Eq.trans (Finset.sum_congr rfl fun x _ => ?_) (sum_indicator_mul 0 fun k => raw (ix3 0 k d))
  congr 1
  rw [sitofp_ofBool]
  refine if_congr ?_ rfl rfl
  rw [sitofp_ofNat _ (hv x), ← EReal.coe_zero, EReal.coe_eq_coe_iff, Nat.cast_eq_zero]
  exact ⟨fun h => Fin.ext h, fun h => congrArg Fin.val h⟩

/-- … and after it the token at each position taken. -/
theorem pay2_1_succ (raw : Vec Ideal S1x197x384 .f32) (f : Vec Ideal S196 .f32) (t : Fin 196) (d : Fin 384) (k : Fin 196)
    (h : f (ix1 t) = ((k.val : ℝ) : EReal)) :
    k2_pay1 (F := Ideal) (k2_pay2 raw) f (ix3 0 t.succ d) = raw (ix3 0 k.succ d) := by
  pointwise [k2_pay1, k2_pay2]
  have hv : ∀ x : Fin 197, x.val < 1000 := fun x => lt_trans x.isLt (by norm_num)
  refine Eq.trans (Finset.sum_congr rfl fun x _ => ?_) (sum_indicator_mul k.succ fun k => raw (ix3 0 k d))
  congr 1
  rw [sitofp_ofBool]
  refine if_congr ?_ rfl rfl
  rw [dif_neg (by simp), sitofp_ofNat _ (hv x)]
  have e : (ix1 (⟨t.succ.val - 1, by simp⟩ : Fin 196) : S196.Idx) = ix1 t := rfl
  erw [h]
  rw [← EReal.coe_one, ← EReal.coe_add, EReal.coe_eq_coe_iff]
  rw [Fin.ext_iff, Fin.val_succ]
  norm_cast

end Cert.KernelIdeal.Val

end
-- ==== Proof.KernelIdeal.Arrays.lean ====
/- The arrays the three kernels leave, at an index, as the row mathematics of the arrays they read. -/
module

public import proofs.«01_k».proof.Proof.KernelIdeal.Tiles
public import proofs.«01_k».proof.Proof.KernelIdeal.Rank
public import proofs.«01_k».proof.Proof.KernelIdeal.Cdf
public import proofs.«01_k».proof.Proof.KernelIdeal.Pick
public import Idealize.ShloMosaic.Lib.Pipeline.ValueKit

@[expose] public section

set_option maxRecDepth 16384

noncomputable section

namespace Cert.KernelIdeal.Val

open Cert.KernelIdeal Cert.KernelIdeal.Gen Cert.KernelIdeal.Run Idealize.ShloMosaic Idealize.ShloMosaic.TcCoe Cert.Select
open Idealize.ShloMosaic.Pipeline (Dat Cfg Window)

variable (V : (c : Dev nD) → (b : Ref sig .tc) → Buf (Elt Ideal) ((c : Thread nD τ).loc b)) (c : Dev nD)

/-! ## The ranking call -/

/-- Row `b` of the scores the ranking call reads. -/
def scoreRow (b : Fin 32) (k : Fin 196) : EReal := V c main_v58 (ix3 b 0 k)

/-- Every window of the ranking call shows block `t` at point `t`. -/
theorem idx0 : ∀ t : Fin grid0.N, win0_0.index t = ![(grid0.coords t 0).val, 0, 0] ∧ win0_1.index t = ![(grid0.coords t 0).val, 0, 0]
    ∧ win0_2.index t = ![(grid0.coords t 0).val, 0, 0] := by decide +kernel

/-- An index of a [1, 1, 196] array is its last coordinate. -/
theorem row_idx (y : S1x1x196.Idx) : ∃ r : Fin 196, y = ix3 0 0 r := by
  refine ⟨y 2, ?_⟩
  funext a
  refine Fin.cases ?_ (fun a => Fin.cases ?_ (fun a => Fin.cases rfl (fun a => a.elim0) a) a) a
  · exact Subsingleton.elim (α := Fin 1) _ _
  · exact Subsingleton.elim (α := Fin 1) _ _

theorem iblk0_0 (t : Fin cfg0.N) (k : Fin 196) : iblk0 V c 0 t (ix3 0 0 k) = scoreRow V c (grid0.coords t 0) k := by
  unfold scoreRow
  blk_ext [iblk0, idx0 t]

/-- The sorted scores. -/
theorem arr0_1 : (dat0 V c).arrAt 1 cfg0.N = fun i => scoreRow V c (i 0) (order (scoreRow V c (i 0)) (i 2)) := by
  refine (dat0 V c).arrAt_eq_of_covers 1 _ (by decide +kernel) fun t hf y => ?_
  obtain ⟨r, rfl⟩ := row_idx y
  have h : ((cfg0.win 1).blk t).view.emb (ix3 0 0 r : S1x1x196.Idx) = (ix3 (grid0.coords t 0) 0 r : S32x1x196.Idx) := by
    blk_ext [idx0 t]
  rw [h]
  blk_simp
  rw [after0_1]
  unfold out0_1
  frame_out
  refine (pay0_1 _ r).trans ((pay0_7 _ r).trans ?_)
  simp only [iblk0_0]
  rfl

/-- The positions they come from, as floats. -/
theorem arr0_2 : (dat0 V c).arrAt 2 cfg0.N = fun i => (((order (scoreRow V c (i 0)) (i 2)).val : ℝ) : EReal) := by
  refine (dat0 V c).arrAt_eq_of_covers 2 _ (by decide +kernel) fun t hf y => ?_
  obtain ⟨r, rfl⟩ := row_idx y
  have h : ((cfg0.win 2).blk t).view.emb (ix3 0 0 r : S1x1x196.Idx) = (ix3 (grid0.coords t 0) 0 r : S32x1x196.Idx) := by
    blk_ext [idx0 t]
  rw [h]
  blk_simp
  rw [after0_2]
  unfold out0_2
  frame_out
  refine (pay0_2 _ r).trans ((pay0_6 _ r).trans ?_)
  simp only [iblk0_0]
  rfl

/-! ## The running sums -/

theorem pay1_3 (b : Fin 32) : k1_pay3 (F := Ideal) (ix2 0 b) = 0 := by
  pointwise [k1_pay3]

/-- A running sum from row `o` is the sum of its rows. -/
theorem sumTo_eq (t : FVec Ideal S196x32 .f32) (o k : ℕ) (b : Fin 32) :
    sumTo (F := Ideal) t o k (ix2 0 b) = ∑ i ∈ Finset.range k, rowAt (F := Ideal) t (o + i) (ix2 0 b) := by
  induction k with
  | zero => exact pay1_3 b
  | succ k ih =>
    rw [Finset.sum_range_succ, ← ih, sumTo_succ]
    rfl

/-- The two runs together give the running sums of the whole column. -/
theorem sums_eq (t : FVec Ideal S196x32 .f32) (r : Fin 196) (b : Fin 32) :
    sums (F := Ideal) t (ix2 r b) = cum (fun k => t (ix2 k b)) r := by
  have h : sums (F := Ideal) t (ix2 r b) = ∑ i ∈ Finset.range (r.val + 1), rowAt (F := Ideal) t i (ix2 0 b) := by
    unfold sums
    show (if r.val < 128 then sumTo (F := Ideal) t 0 (r.val + 1) (ix2 0 b)
      else sumTo (F := Ideal) t 0 128 (ix2 0 b) + sumTo (F := Ideal) t 128 (r.val - 128 + 1) (ix2 0 b)) = _
    split_ifs with hr
    · simp only [sumTo_eq, Nat.zero_add]
    · simp only [sumTo_eq, Nat.zero_add]
      rw [← Finset.sum_range_add, show 128 + (r.val - 128 + 1) = r.val + 1 by omega]
  rw [h]
  unfold cum
  symm
  refine Finset.sum_nbij Fin.val (fun a ha => ?_) (fun a _ a' _ e => Fin.ext e) (fun i hi => ?_) (fun a ha => ?_)
  · have := (Finset.mem_filter.mp ha).2
    exact Finset.mem_range.mpr (Nat.lt_succ_of_le this)
  · have hi' : i < r.val + 1 := Finset.mem_range.mp hi
    exact ⟨⟨i, by omega⟩, Finset.mem_coe.mpr (Finset.mem_filter.mpr ⟨Finset.mem_univ _, Nat.le_of_lt_succ hi'⟩), rfl⟩
  · unfold rowAt
    rw [dif_pos a.isLt]
    rfl

/-- The one point of this call reads and writes whole arrays. -/
theorem idx1 : ∀ t : Fin grid1.N, win1_0.index t = ![0, 0, 0] ∧ win1_1.index t = ![0, 0, 0] := by decide +kernel

theorem iblk1_0 (t : Fin cfg1.N) (b : Fin 32) (k : Fin 196) : iblk1 V c 0 t (ix3 b 0 k) = V c main_v59_0 (ix3 b 0 k) := by
  blk_ext [iblk1, idx1 t]

/-- An index of a [32, 1, 196] array is its first and last coordinates. -/
theorem rows_idx (y : S32x1x196.Idx) : ∃ (b : Fin 32) (r : Fin 196), y = ix3 b 0 r := by
  refine ⟨y 0, y 2, ?_⟩
  funext a
  refine Fin.cases rfl (fun a => Fin.cases ?_ (fun a => Fin.cases rfl (fun a => a.elim0) a) a) a
  exact Subsingleton.elim (α := Fin 1) _ _

/-- The rescaled running sums of each row. -/
theorem arr1_1 : (dat1 V c).arrAt 1 cfg1.N = fun i => rescale (cum fun k => V c main_v59_0 (ix3 (i 0) 0 k)) (i 2) := by
  refine (dat1 V c).arrAt_eq_of_covers 1 _ (by decide +kernel) fun t hf y => ?_
  obtain ⟨b, r, rfl⟩ := rows_idx y
  have h : ((cfg1.win 1).blk t).view.emb (ix3 b 0 r : S32x1x196.Idx) = (ix3 b 0 r : S32x1x196.Idx) := by
    blk_ext [idx1 t]
  rw [h]
  blk_simp
  rw [after1_1]
  unfold out1_1
  refine (pay1_1 _ b r).trans ((pay1_9 _ b r).trans ?_)
  simp only [sums_eq, pay1_2, iblk1_0]
  rfl

/-! ## The picking call -/

theorem idx2 : ∀ t : Fin grid2.N, win2_0.index t = ![(grid2.coords t 0).val, 0, 0] ∧ win2_1.index t = ![(grid2.coords t 0).val, 0, 0]
    ∧ win2_2.index t = ![0, 0] ∧ win2_3.index t = ![(grid2.coords t 0).val, 0, 0] ∧ win2_4.index t = ![(grid2.coords t 0).val, 0, 0] := by decide +kernel

theorem iblk2_0 (t : Fin cfg2.N) (k : Fin 196) : iblk2 V c 0 t (ix3 0 0 k) = V c main_v60 (ix3 (grid2.coords t 0) 0 k) := by
  blk_ext [iblk2, idx2 t]
theorem iblk2_1 (t : Fin cfg2.N) (k : Fin 196) : iblk2 V c 1 t (ix3 0 0 k) = V c main_v59_1 (ix3 (grid2.coords t 0) 0 k) := by
  blk_ext [iblk2, idx2 t]
theorem iblk2_2 (t : Fin cfg2.N) (k : Fin 196) : iblk2 V c 2 t (ix2 0 k) = V c main_arg4 (ix2 0 k) := by
  blk_ext [iblk2, idx2 t]
theorem iblk2_3 (t : Fin cfg2.N) (k : Fin 197) (d : Fin 384) : iblk2 V c 3 t (ix3 0 k d) = V c main_arg1 (ix3 (grid2.coords t 0) k d) := by
  blk_ext [iblk2, idx2 t]

/-- The index the picking call computes for batch element `b` and sampling point `t`, as a float. -/
def pickAt (b : Fin 32) (t : Fin 196) : EReal :=
  V c main_v59_1 (ix3 b 0 (first (gap (fun j => V c main_v60 (ix3 b 0 j)) (V c main_arg4 (ix2 0 t)))))

/-- The picked tokens: row 0 as it was, row `t + 1` the row the computed index names. -/
theorem arr2_4 (k : Fin 32 → Fin 196 → Fin 196) (hk : ∀ b t, pickAt V c b t = (((k b t).val : ℝ) : EReal)) :
    (dat2 V c).arrAt 4 cfg2.N = fun i => V c main_arg1 (ix3 (i 0) (Fin.cases (motive := fun _ => Fin 197) 0 (fun t => (k (i 0) t).succ) (i 1)) (i 2)) := by
  refine (dat2 V c).arrAt_eq_of_covers 4 _ (by decide +kernel) fun t hf y => ?_
  obtain ⟨r, d, rfl⟩ : ∃ (r : Fin 197) (d : Fin 384), (y : S1x197x384.Idx) = ix3 0 r d := by
    refine ⟨y 1, y 2, ?_⟩
    funext a
    refine Fin.cases ?_ (fun a => Fin.cases rfl (fun a => Fin.cases rfl (fun a => a.elim0) a) a) a
    exact Subsingleton.elim (α := Fin 1) _ _
  have h : ((cfg2.win 4).blk t).view.emb (ix3 0 r d : S1x197x384.Idx) = (ix3 (grid2.coords t 0) r d : S32x197x384.Idx) := by
    blk_ext [idx2 t]
  rw [h]
  blk_simp
  rw [after2_4]
  unfold out2_4
  frame_out
  refine Fin.cases ?_ (fun r => ?_) r
  · refine (pay2_1_zero _ _ d).trans ?_
    exact iblk2_3 V c t 0 d
  · refine (pay2_1_succ _ _ r d (k (grid2.coords t 0) r) ?_).trans ?_
    · refine (pay2_3 _ _ _ r).trans ?_
      simp only [iblk2_0, iblk2_1, iblk2_2]
      exact hk (grid2.coords t 0) r
    · exact iblk2_3 V c t _ d

end Cert.KernelIdeal.Val

end
-- ==== Proof.KernelIdeal.Result.lean ====
/- The kernel's array of picked tokens after its run, from the scores its host part computes. -/
module

public import proofs.«01_k».proof.Proof.KernelIdeal.Arrays
public import proofs.«01_k».proof.Proof.KernelIdeal.Run

@[expose] public section

set_option maxRecDepth 16384

noncomputable section

namespace Cert.KernelIdeal.Val

open Cert.KernelIdeal Cert.KernelIdeal.Gen Cert.KernelIdeal.Run Idealize.ShloMosaic Idealize.ShloMosaic.TcCoe Cert.Select

variable (m : (ℓ : Loc nD τ sig) → Buf (Elt Ideal) ℓ) (ρ : Dev nD → PrngReg) (c : Dev nD)

/-- Row `b` of the normalised scores the host part leaves. -/
abbrev row (b : Fin 32) : Fin 196 → EReal := scoreRow (V3 m ρ) c b

theorem sorted_at (b : Fin 32) (r : Fin 196) :
    V4 m ρ c main_v59_0 (ix3 b 0 r) = row m ρ c b (order (row m ρ c b) r) :=
  congrFun ((W4_arr m ρ c 1).trans (arr0_1 (V3 m ρ) c)) (ix3 b 0 r)

theorem positions_at (b : Fin 32) (r : Fin 196) :
    V5 m ρ c main_v59_1 (ix3 b 0 r) = (((order (row m ρ c b) r).val : ℝ) : EReal) :=
  (congrFun (W5_of m ρ c main_v59_1 (by decide +kernel)) (ix3 b 0 r)).trans
    (congrFun ((W4_arr m ρ c 2).trans (arr0_2 (V3 m ρ) c)) (ix3 b 0 r))

theorem levels_at (b : Fin 32) (r : Fin 196) : V5 m ρ c main_v60 (ix3 b 0 r) = Cert.Select.levels (row m ρ c b) r := by
  refine (congrFun ((W5_arr m ρ c 1).trans (arr1_1 (V4 m ρ) c)) (ix3 b 0 r)).trans ?_
  unfold Cert.Select.levels
  simp only [← sorted_at]
  rfl

/-- Row 0 is the raw class token, row `t + 1` the raw token the sampling point `t` picks. -/
theorem result :
    W6 m ρ c (Proc.devRef .tc main_v61) = fun i => m ((c : Thread nD τ).loc main_arg1)
      (ix3 (i 0) (Fin.cases (motive := fun _ => Fin 197) 0
        (fun t => (chosen (row m ρ c (i 0)) (m ((c : Thread nD τ).loc main_arg4) (ix2 0 t))).succ) (i 1)) (i 2)) := by
  have h1 : V5 m ρ c main_arg1 = m ((c : Thread nD τ).loc main_arg1) := W5_args m ρ c main_arg1 (by decide +kernel)
  have h4 : V5 m ρ c main_arg4 = m ((c : Thread nD τ).loc main_arg4) := W5_args m ρ c main_arg4 (by decide +kernel)
  refine (W6_arr m ρ c 4).trans ((arr2_4 (V5 m ρ) c
    (fun b t => chosen (row m ρ c b) (m ((c : Thread nD τ).loc main_arg4) (ix2 0 t))) fun b t => ?_).trans ?_)
  · have e : (fun j => V5 m ρ c main_v60 (ix3 b 0 j)) = Cert.Select.levels (row m ρ c b) := funext (levels_at m ρ c b)
    refine (positions_at m ρ c b _).trans ?_
    unfold chosen
    rw [e, h4]
  · rw [h1]

end Cert.KernelIdeal.Val

end
-- ==== Proof.Reference.Ops.lean ====
/- The reference program's host operations, grouped by what they compute, and its run through them. -/
module

public import proofs.«01_k».proof.Proof.Gen.ReferenceIdeal
public import Idealize.ShloMosaic.Lib.Claim
public import Idealize.ShloMosaic.Lib.Quiescent
public import Idealize.ShloMosaic.Lib.Pipeline.Regions

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

variable {F : FTy → Type} [FloatOps F]

/-- The operations computing queries, keys and values, the attention weights. -/
abbrev attnOps : List (HloOp τ sig (Elt F)) :=
  [ StableHlo.unary main_arg3 main_v0 ((transpose S384x1152 [1, 0] · transposes_S1152x384_S384x1152_1_0) : (⟨S1152x384, .f32⟩ : BufTy).Contents (Elt F) → (⟨S384x1152, .f32⟩ : BufTy).Contents (Elt F)),
    StableHlo.binary main_arg0 main_v0 main_v1 ((fun l r => Host.dotGeneral dot_S32x197x384_S384x1152_S32x197x1152_2_0_01_1_n_n none l r) : (⟨S32x197x384, .f32⟩ : BufTy).Contents (Elt F) → (⟨S384x1152, .f32⟩ : BufTy).Contents (Elt F) → (⟨S32x197x1152, .f32⟩ : BufTy).Contents (Elt F)),
    StableHlo.reshape main_v1 main_v2 (rfl : (.f32 : EltTy) = .f32) shapeCasts_S32x197x1152_S32x197x3x12x32,
    StableHlo.unary main_v2 main_v3 ((transpose S3x32x12x197x32 [2, 0, 3, 1, 4] · transposes_S32x197x3x12x32_S3x32x12x197x32_2_0_3_1_4) : (⟨S32x197x3x12x32, .f32⟩ : BufTy).Contents (Elt F) → (⟨S3x32x12x197x32, .f32⟩ : BufTy).Contents (Elt F)),
    StableHlo.unary main_v3 main_v4 ((extractStridedSlice S1x32x12x197x32 ![0, 0, 0, 0, 0] · slices_S3x32x12x197x32_S1x32x12x197x32_0_0_0_0_0) : (⟨S3x32x12x197x32, .f32⟩ : BufTy).Contents (Elt F) → (⟨S1x32x12x197x32, .f32⟩ : BufTy).Contents (Elt F)),
    StableHlo.reshape main_v4 main_v5 (rfl : (.f32 : EltTy) = .f32) shapeCasts_S1x32x12x197x32_S32x12x197x32,
    StableHlo.unary main_v3 main_v6 ((extractStridedSlice S1x32x12x197x32 ![1, 0, 0, 0, 0] · slices_S3x32x12x197x32_S1x32x12x197x32_1_0_0_0_0) : (⟨S3x32x12x197x32, .f32⟩ : BufTy).Contents (Elt F) → (⟨S1x32x12x197x32, .f32⟩ : BufTy).Contents (Elt F)),
    StableHlo.reshape main_v6 main_v7 (rfl : (.f32 : EltTy) = .f32) shapeCasts_S1x32x12x197x32_S32x12x197x32,
    StableHlo.unary main_v3 main_v8 ((extractStridedSlice S1x32x12x197x32 ![2, 0, 0, 0, 0] · slices_S3x32x12x197x32_S1x32x12x197x32_2_0_0_0_0) : (⟨S3x32x12x197x32, .f32⟩ : BufTy).Contents (Elt F) → (⟨S1x32x12x197x32, .f32⟩ : BufTy).Contents (Elt F)),
    StableHlo.reshape main_v8 main_v9 (rfl : (.f32 : EltTy) = .f32) shapeCasts_S1x32x12x197x32_S32x12x197x32,
    StableHlo.binary main_v5 main_v7 main_v10 ((fun l r => Host.dotGeneral dot_S32x12x197x32_S32x12x197x32_S32x12x197x197_3_3_2_2_01_01 none l r) : (⟨S32x12x197x32, .f32⟩ : BufTy).Contents (Elt F) → (⟨S32x12x197x32, .f32⟩ : BufTy).Contents (Elt F) → (⟨S32x12x197x197, .f32⟩ : BufTy).Contents (Elt F)),
    StableHlo.nullary main_cst (constant S_ .f32 0x3E3504F3#32),
    StableHlo.unary main_cst main_v11 (broadcastInDim S32x12x197x197 ![] bcast_S_S32x12x197x197 : (⟨S_, .f32⟩ : BufTy).Contents (Elt F) → (⟨S32x12x197x197, .f32⟩ : BufTy).Contents (Elt F)),
    StableHlo.binary main_v10 main_v11 main_v12 (mulf : (⟨S32x12x197x197, .f32⟩ : BufTy).Contents (Elt F) → (⟨S32x12x197x197, .f32⟩ : BufTy).Contents (Elt F) → (⟨S32x12x197x197, .f32⟩ : BufTy).Contents (Elt F)),
    StableHlo.nullary main_cst_0 (constant S_ .f32 0xFF800000#32),
    StableHlo.binary main_v12 main_cst_0 main_v13 ((fun x v => Host.reduce FloatOps.maximumf x v reducesTo_S32x12x197x197_S32x12x197_d3 h_S_) : (⟨S32x12x197x197, .f32⟩ : BufTy).Contents (Elt F) → (⟨S_, .f32⟩ : BufTy).Contents (Elt F) → (⟨S32x12x197, .f32⟩ : BufTy).Contents (Elt F)),
    StableHlo.nullary main_cst_1 (constant S_ .f32 0xFF800000#32),
    StableHlo.unary main_cst_1 main_v14 (broadcastInDim S32x12x197 ![] bcast_S_S32x12x197 : (⟨S_, .f32⟩ : BufTy).Contents (Elt F) → (⟨S32x12x197, .f32⟩ : BufTy).Contents (Elt F)),
    StableHlo.binary main_v14 main_v13 main_v15 (maximumf : (⟨S32x12x197, .f32⟩ : BufTy).Contents (Elt F) → (⟨S32x12x197, .f32⟩ : BufTy).Contents (Elt F) → (⟨S32x12x197, .f32⟩ : BufTy).Contents (Elt F)),
    StableHlo.unary main_v15 main_v16 (broadcastInDim S32x12x197x1 ![0, 1, 2] bcast_S32x12x197_S32x12x197x1_0_1_2 : (⟨S32x12x197, .f32⟩ : BufTy).Contents (Elt F) → (⟨S32x12x197x1, .f32⟩ : BufTy).Contents (Elt F)),
    StableHlo.unary main_v16 main_v17 (broadcastInDim S32x12x197x197 ![0, 1, 2, 3] bcast_S32x12x197x1_S32x12x197x197_0_1_2_3 : (⟨S32x12x197x1, .f32⟩ : BufTy).Contents (Elt F) → (⟨S32x12x197x197, .f32⟩ : BufTy).Contents (Elt F)),
    StableHlo.binary main_v12 main_v17 main_v18 (subf : (⟨S32x12x197x197, .f32⟩ : BufTy).Contents (Elt F) → (⟨S32x12x197x197, .f32⟩ : BufTy).Contents (Elt F) → (⟨S32x12x197x197, .f32⟩ : BufTy).Contents (Elt F)),
    StableHlo.unary main_v18 main_v19 (Host.exp : (⟨S32x12x197x197, .f32⟩ : BufTy).Contents (Elt F) → (⟨S32x12x197x197, .f32⟩ : BufTy).Contents (Elt F)),
    StableHlo.nullary main_cst_2 (constant S_ .f32 0x00000000#32),
    StableHlo.binary main_v19 main_cst_2 main_v20 ((fun x v => Host.reduceAdd x v reducesTo_S32x12x197x197_S32x12x197_d3 h_S_) : (⟨S32x12x197x197, .f32⟩ : BufTy).Contents (Elt F) → (⟨S_, .f32⟩ : BufTy).Contents (Elt F) → (⟨S32x12x197, .f32⟩ : BufTy).Contents (Elt F)),
    StableHlo.unary main_v20 main_v21 (broadcastInDim S32x12x197x1 ![0, 1, 2] bcast_S32x12x197_S32x12x197x1_0_1_2 : (⟨S32x12x197, .f32⟩ : BufTy).Contents (Elt F) → (⟨S32x12x197x1, .f32⟩ : BufTy).Contents (Elt F)),
    StableHlo.unary main_v21 main_v22 (broadcastInDim S32x12x197x197 ![0, 1, 2, 3] bcast_S32x12x197x1_S32x12x197x197_0_1_2_3 : (⟨S32x12x197x1, .f32⟩ : BufTy).Contents (Elt F) → (⟨S32x12x197x197, .f32⟩ : BufTy).Contents (Elt F)),
    StableHlo.binary main_v19 main_v22 main_v23 (Host.divf : (⟨S32x12x197x197, .f32⟩ : BufTy).Contents (Elt F) → (⟨S32x12x197x197, .f32⟩ : BufTy).Contents (Elt F) → (⟨S32x12x197x197, .f32⟩ : BufTy).Contents (Elt F)),
    StableHlo.unary main_v9 main_v24 ((transpose S32x197x12x32 [0, 2, 1, 3] · transposes_S32x12x197x32_S32x197x12x32_0_2_1_3) : (⟨S32x12x197x32, .f32⟩ : BufTy).Contents (Elt F) → (⟨S32x197x12x32, .f32⟩ : BufTy).Contents (Elt F)),
    StableHlo.reshape main_v24 main_v25 (rfl : (.f32 : EltTy) = .f32) shapeCasts_S32x197x12x32_S32x197x384 ]

theorem attnOps_sub : (attnOps : List (HloOp τ sig (Elt F))).Forall fun op => op.bufs ⊆ StableHlo.tcRefs τ sig :=
  ⟨StableHlo.unary_bufs_sub .., StableHlo.binary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.reshape_bufs_sub ..⟩

theorem attnOps_fresh : (attnOps : List (HloOp τ sig (Elt F))).Forall fun op => op.fresh = ∅ := by
  simp only [List.Forall]; repeat' constructor

/-- What they write. -/
abbrev attnOps_W : List (Ref sig .tc) := [main_v0, main_v1, main_v2, main_v3, main_v4, main_v5, main_v6, main_v7, main_v8, main_v9, main_v10, main_cst, main_v11, main_v12, main_cst_0, main_v13, main_cst_1, main_v14, main_v15, main_v16, main_v17, main_v18, main_v19, main_cst_2, main_v20, main_v21, main_v22, main_v23, main_v24, main_v25]

theorem attnOps_writes : (attnOps : List (HloOp τ sig (Elt F))).Forall fun op => op.writes ⊆ (attnOps_W.map (Proc.devRef (τ := τ) .tc)).toFinset :=
  StableHlo.forall_writes_sub_of_map rfl

/-- The operations computing the norm of each value row. -/
abbrev normOps : List (HloOp τ sig (Elt F)) :=
  [ StableHlo.TRef.binary (.of main_v25 : StableHlo.TRef sig ⟨S32x197x384, .f32⟩) (.of main_v25 : StableHlo.TRef sig ⟨S32x197x384, .f32⟩) (.of main_call0_v0 : StableHlo.TRef sig ⟨S32x197x384, .f32⟩) mulf,
    StableHlo.TRef.nullary (.of main_call0_cst : StableHlo.TRef sig ⟨S_, .f32⟩) (constant S_ .f32 0x00000000#32),
    StableHlo.TRef.binary (.of main_call0_v0 : StableHlo.TRef sig ⟨S32x197x384, .f32⟩) (.of main_call0_cst : StableHlo.TRef sig ⟨S_, .f32⟩) (.of main_call0_v1 : StableHlo.TRef sig ⟨S32x197, .f32⟩) (fun x v => Host.reduceAdd x v reducesTo_S32x197x384_S32x197_d2 h_S_),
    StableHlo.TRef.unary (.of main_call0_v1 : StableHlo.TRef sig ⟨S32x197, .f32⟩) (.of main_v26 : StableHlo.TRef sig ⟨S32x197, .f32⟩) Host.sqrt ]

theorem normOps_sub : (normOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..⟩

theorem normOps_fresh : (normOps : List (HloOp τ sig (Elt F))).Forall fun op => op.fresh = ∅ := by
  simp only [List.Forall]; repeat' constructor

/-- What they write. -/
abbrev normOps_W : List (Ref sig .tc) := [main_call0_v0, main_call0_cst, main_call0_v1, main_v26]

theorem normOps_writes : (normOps : List (HloOp τ sig (Elt F))).Forall fun op => op.writes ⊆ (normOps_W.map (Proc.devRef (τ := τ) .tc)).toFinset :=
  StableHlo.forall_writes_sub_of_map rfl

/-- The operations computing the normalised scores. -/
abbrev scoreOps : List (HloOp τ sig (Elt F)) :=
  [ StableHlo.unary main_v23 main_v27 ((extractStridedSlice S32x12x1x197 ![0, 0, 0, 0] · slices_S32x12x197x197_S32x12x1x197_0_0_0_0) : (⟨S32x12x197x197, .f32⟩ : BufTy).Contents (Elt F) → (⟨S32x12x1x197, .f32⟩ : BufTy).Contents (Elt F)),
    StableHlo.reshape main_v27 main_v28 (rfl : (.f32 : EltTy) = .f32) shapeCasts_S32x12x1x197_S32x12x197,
    StableHlo.nullary main_cst_3 (constant S_ .f32 0x00000000#32),
    StableHlo.binary main_v28 main_cst_3 main_v29 ((fun x v => Host.reduceAdd x v reducesTo_S32x12x197_S32x197_d1 h_S_) : (⟨S32x12x197, .f32⟩ : BufTy).Contents (Elt F) → (⟨S_, .f32⟩ : BufTy).Contents (Elt F) → (⟨S32x197, .f32⟩ : BufTy).Contents (Elt F)),
    StableHlo.binary main_v29 main_v26 main_v30 (mulf : (⟨S32x197, .f32⟩ : BufTy).Contents (Elt F) → (⟨S32x197, .f32⟩ : BufTy).Contents (Elt F) → (⟨S32x197, .f32⟩ : BufTy).Contents (Elt F)),
    StableHlo.unary main_v30 main_v31 ((extractStridedSlice S32x196 ![0, 1] · slices_S32x197_S32x196_0_1) : (⟨S32x197, .f32⟩ : BufTy).Contents (Elt F) → (⟨S32x196, .f32⟩ : BufTy).Contents (Elt F)),
    StableHlo.nullary main_cst_4 (constant S_ .f32 0x00000000#32),
    StableHlo.binary main_v31 main_cst_4 main_v32 ((fun x v => Host.reduceAdd x v reducesTo_S32x196_S32_d1 h_S_) : (⟨S32x196, .f32⟩ : BufTy).Contents (Elt F) → (⟨S_, .f32⟩ : BufTy).Contents (Elt F) → (⟨S32, .f32⟩ : BufTy).Contents (Elt F)),
    StableHlo.unary main_v32 main_v33 (broadcastInDim S32x1 ![0] bcast_S32_S32x1_0 : (⟨S32, .f32⟩ : BufTy).Contents (Elt F) → (⟨S32x1, .f32⟩ : BufTy).Contents (Elt F)),
    StableHlo.unary main_v33 main_v34 (broadcastInDim S32x196 ![0, 1] bcast_S32x1_S32x196_0_1 : (⟨S32x1, .f32⟩ : BufTy).Contents (Elt F) → (⟨S32x196, .f32⟩ : BufTy).Contents (Elt F)),
    StableHlo.binary main_v31 main_v34 main_v35 (Host.divf : (⟨S32x196, .f32⟩ : BufTy).Contents (Elt F) → (⟨S32x196, .f32⟩ : BufTy).Contents (Elt F) → (⟨S32x196, .f32⟩ : BufTy).Contents (Elt F)) ]

theorem scoreOps_sub : (scoreOps : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

theorem scoreOps_fresh : (scoreOps : List (HloOp τ sig (Elt F))).Forall fun op => op.fresh = ∅ := by
  simp only [List.Forall]; repeat' constructor

/-- What they write. -/
abbrev scoreOps_W : List (Ref sig .tc) := [main_v27, main_v28, main_cst_3, main_v29, main_v30, main_v31, main_cst_4, main_v32, main_v33, main_v34, main_v35]

theorem scoreOps_writes : (scoreOps : List (HloOp τ sig (Elt F))).Forall fun op => op.writes ⊆ (scoreOps_W.map (Proc.devRef (τ := τ) .tc)).toFinset :=
  StableHlo.forall_writes_sub_of_map rfl

/-- The operations computing the stable order of the scores. -/
abbrev orderOps : List (HloOp τ sig (Elt F)) :=
  [ StableHlo.TRef.nullary (.of main_call1_v0 : StableHlo.TRef sig ⟨S32x196, .i32⟩) (iotaInDim S32x196 32 1),
    StableHlo.TRef.binary (.of main_v35 : StableHlo.TRef sig ⟨S32x196, .f32⟩) (.of main_call1_v0 : StableHlo.TRef sig ⟨S32x196, .i32⟩) (.of main_call1_v1_0 : StableHlo.TRef sig ⟨S32x196, .f32⟩) (fun x y => (Host.sort2 S32x196 1 comparator_f32_i32_d1 x y).1),
    StableHlo.TRef.binary (.of main_v35 : StableHlo.TRef sig ⟨S32x196, .f32⟩) (.of main_call1_v0 : StableHlo.TRef sig ⟨S32x196, .i32⟩) (.of main_v36 : StableHlo.TRef sig ⟨S32x196, .i32⟩) (fun x y => (Host.sort2 S32x196 1 comparator_f32_i32_d1 x y).2) ]

theorem orderOps_sub : (orderOps : List (HloOp τ sig (Elt F))).Forall fun op => op.bufs ⊆ StableHlo.tcRefs τ sig :=
  ⟨StableHlo.nullary_bufs_sub .., StableHlo.binary_bufs_sub .., StableHlo.binary_bufs_sub ..⟩

theorem orderOps_fresh : (orderOps : List (HloOp τ sig (Elt F))).Forall fun op => op.fresh = ∅ := by
  simp only [List.Forall]; repeat' constructor

/-- What they write. -/
abbrev orderOps_W : List (Ref sig .tc) := [main_call1_v0, main_call1_v1_0, main_v36]

theorem orderOps_writes : (orderOps : List (HloOp τ sig (Elt F))).Forall fun op => op.writes ⊆ (orderOps_W.map (Proc.devRef (τ := τ) .tc)).toFinset :=
  StableHlo.forall_writes_sub_of_map rfl

/-- The operations computing the scores in that order. -/
abbrev sortedOps : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S32x196, .i32⟩) (broadcastInDim S32x196 ![] bcast_S_S32x196),
    StableHlo.TRef.binary (.of main_v36 : StableHlo.TRef sig ⟨S32x196, .i32⟩) (.of main_call2_v0 : StableHlo.TRef sig ⟨S32x196, .i32⟩) (.of main_call2_v1 : StableHlo.TRef sig ⟨S32x196, .i1⟩) (cmpi .slt),
    StableHlo.TRef.nullary (.of main_call2_c_0 : StableHlo.TRef sig ⟨S_, .i32⟩) (constantI S_ 32 196#32),
    StableHlo.TRef.unary (.of main_call2_c_0 : StableHlo.TRef sig ⟨S_, .i32⟩) (.of main_call2_v2 : StableHlo.TRef sig ⟨S32x196, .i32⟩) (broadcastInDim S32x196 ![] bcast_S_S32x196),
    StableHlo.TRef.binary (.of main_v36 : StableHlo.TRef sig ⟨S32x196, .i32⟩) (.of main_call2_v2 : StableHlo.TRef sig ⟨S32x196, .i32⟩) (.of main_call2_v3 : StableHlo.TRef sig ⟨S32x196, .i32⟩) addi,
    StableHlo.TRef.ternary (.of main_call2_v1 : StableHlo.TRef sig ⟨S32x196, .i1⟩) (.of main_call2_v3 : StableHlo.TRef sig ⟨S32x196, .i32⟩) (.of main_v36 : StableHlo.TRef sig ⟨S32x196, .i32⟩) (.of main_call2_v4 : StableHlo.TRef sig ⟨S32x196, .i32⟩) select,
    StableHlo.TRef.reshape (.of main_call2_v4 : StableHlo.TRef sig ⟨S32x196, .i32⟩) (.of main_call2_v5 : StableHlo.TRef sig ⟨S32x196x1, .i32⟩) (rfl : (.i32 : EltTy) = .i32) shapeCasts_S32x196_S32x196x1,
    StableHlo.TRef.nullary (.of main_call2_c_1 : StableHlo.TRef sig ⟨S1, .i32⟩) (constantI S1 32 195#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S32x196x1, .i32⟩) (broadcastInDim S32x196x1 ![] bcast_S_S32x196x1),
    StableHlo.TRef.binary (.of main_call2_v5 : StableHlo.TRef sig ⟨S32x196x1, .i32⟩) (.of main_call2_v6 : StableHlo.TRef sig ⟨S32x196x1, .i32⟩) (.of main_call2_v7 : StableHlo.TRef sig ⟨S32x196x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S32x196x1, .i32⟩) (broadcastInDim S32x196x1 ![0, 1, 2] bcast_S1x1x1_S32x196x1_0_1_2),
    StableHlo.TRef.binary (.of main_call2_v5 : StableHlo.TRef sig ⟨S32x196x1, .i32⟩) (.of main_call2_v9 : StableHlo.TRef sig ⟨S32x196x1, .i32⟩) (.of main_call2_v10 : StableHlo.TRef sig ⟨S32x196x1, .i1⟩) (cmpi .sle),
    StableHlo.TRef.binary (.of main_call2_v7 : StableHlo.TRef sig ⟨S32x196x1, .i1⟩) (.of main_call2_v10 : StableHlo.TRef sig ⟨S32x196x1, .i1⟩) (.of main_call2_v11 : StableHlo.TRef sig ⟨S32x196x1, .i1⟩) andi,
    StableHlo.TRef.nullary (.of main_call2_c_3 : StableHlo.TRef sig ⟨S_, .i1⟩) (constantI S_ 1 1#1),
    StableHlo.TRef.binary (.of main_call2_v11 : StableHlo.TRef sig ⟨S32x196x1, .i1⟩) (.of main_call2_c_3 : StableHlo.TRef sig ⟨S_, .i1⟩) (.of main_call2_v12 : StableHlo.TRef sig ⟨S32x196, .i1⟩) (fun x v => Host.reduce IntOp.andi x v reducesTo_S32x196x1_S32x196_d2 h_S_),
    StableHlo.TRef.binary (.of main_v35 : StableHlo.TRef sig ⟨S32x196, .f32⟩) (.of main_call2_v5 : StableHlo.TRef sig ⟨S32x196x1, .i32⟩) (.of main_call2_v13 : StableHlo.TRef sig ⟨S32x196, .f32⟩) (fun x i => Host.gather gather_S32x196_S32x196x1_S32x196_n_1_0_0_1_2_11 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S32x196, .f32⟩) (broadcastInDim S32x196 ![] bcast_S_S32x196),
    StableHlo.TRef.ternary (.of main_call2_v12 : StableHlo.TRef sig ⟨S32x196, .i1⟩) (.of main_call2_v13 : StableHlo.TRef sig ⟨S32x196, .f32⟩) (.of main_call2_v14 : StableHlo.TRef sig ⟨S32x196, .f32⟩) (.of main_v37 : StableHlo.TRef sig ⟨S32x196, .f32⟩) select ]

theorem sortedOps_sub : (sortedOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

theorem sortedOps_fresh : (sortedOps : List (HloOp τ sig (Elt F))).Forall fun op => op.fresh = ∅ := by
  simp only [List.Forall]; repeat' constructor

/-- What they write. -/
abbrev sortedOps_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v37]

theorem sortedOps_writes : (sortedOps : List (HloOp τ sig (Elt F))).Forall fun op => op.writes ⊆ (sortedOps_W.map (Proc.devRef (τ := τ) .tc)).toFinset :=
  StableHlo.forall_writes_sub_of_map rfl

/-- The operations computing the running sums, rescaled to run from 0 to 1. -/
abbrev cdfOps : List (HloOp τ sig (Elt F)) :=
  [ StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S_, .f32⟩) (broadcastInDim S_ ![] bcast_S_S_),
    StableHlo.TRef.binary (.of main_v37 : StableHlo.TRef sig ⟨S32x196, .f32⟩) (.of main_call3_call0_v0 : StableHlo.TRef sig ⟨S_, .f32⟩) (.of main_v38 : StableHlo.TRef sig ⟨S32x196, .f32⟩) (fun x v => Host.reduceWindowAdd ![1, 196] ![1, 1] ![0, 195] ![0, 0] x v reduceWindows_S32x196_S32x196_w1s1p0_0_w196s1p195_0 h_S_),
    StableHlo.nullary main_cst_5 (constant S_ .f32 0x7F800000#32),
    StableHlo.binary main_v38 main_cst_5 main_v39 ((fun x v => Host.reduce FloatOps.minimumf x v reducesTo_S32x196_S32_d1 h_S_) : (⟨S32x196, .f32⟩ : BufTy).Contents (Elt F) → (⟨S_, .f32⟩ : BufTy).Contents (Elt F) → (⟨S32, .f32⟩ : BufTy).Contents (Elt F)),
    StableHlo.unary main_v39 main_v40 (broadcastInDim S32x1 ![0] bcast_S32_S32x1_0 : (⟨S32, .f32⟩ : BufTy).Contents (Elt F) → (⟨S32x1, .f32⟩ : BufTy).Contents (Elt F)),
    StableHlo.nullary main_cst_6 (constant S_ .f32 0xFF800000#32),
    StableHlo.binary main_v38 main_cst_6 main_v41 ((fun x v => Host.reduce FloatOps.maximumf x v reducesTo_S32x196_S32_d1 h_S_) : (⟨S32x196, .f32⟩ : BufTy).Contents (Elt F) → (⟨S_, .f32⟩ : BufTy).Contents (Elt F) → (⟨S32, .f32⟩ : BufTy).Contents (Elt F)),
    StableHlo.unary main_v41 main_v42 (broadcastInDim S32x1 ![0] bcast_S32_S32x1_0 : (⟨S32, .f32⟩ : BufTy).Contents (Elt F) → (⟨S32x1, .f32⟩ : BufTy).Contents (Elt F)),
    StableHlo.unary main_v40 main_v43 (broadcastInDim S32x196 ![0, 1] bcast_S32x1_S32x196_0_1 : (⟨S32x1, .f32⟩ : BufTy).Contents (Elt F) → (⟨S32x196, .f32⟩ : BufTy).Contents (Elt F)),
    StableHlo.binary main_v38 main_v43 main_v44 (subf : (⟨S32x196, .f32⟩ : BufTy).Contents (Elt F) → (⟨S32x196, .f32⟩ : BufTy).Contents (Elt F) → (⟨S32x196, .f32⟩ : BufTy).Contents (Elt F)),
    StableHlo.binary main_v42 main_v40 main_v45 (subf : (⟨S32x1, .f32⟩ : BufTy).Contents (Elt F) → (⟨S32x1, .f32⟩ : BufTy).Contents (Elt F) → (⟨S32x1, .f32⟩ : BufTy).Contents (Elt F)),
    StableHlo.unary main_v45 main_v46 (broadcastInDim S32x196 ![0, 1] bcast_S32x1_S32x196_0_1 : (⟨S32x1, .f32⟩ : BufTy).Contents (Elt F) → (⟨S32x196, .f32⟩ : BufTy).Contents (Elt F)),
    StableHlo.binary main_v44 main_v46 main_v47 (Host.divf : (⟨S32x196, .f32⟩ : BufTy).Contents (Elt F) → (⟨S32x196, .f32⟩ : BufTy).Contents (Elt F) → (⟨S32x196, .f32⟩ : BufTy).Contents (Elt F)) ]

theorem cdfOps_sub : (cdfOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub ..⟩

theorem cdfOps_fresh : (cdfOps : List (HloOp τ sig (Elt F))).Forall fun op => op.fresh = ∅ := by
  simp only [List.Forall]; repeat' constructor

/-- What they write. -/
abbrev cdfOps_W : List (Ref sig .tc) := [main_call3_call0_cst, main_call3_call0_v0, main_v38, main_cst_5, main_v39, main_v40, main_cst_6, main_v41, main_v42, main_v43, main_v44, main_v45, main_v46, main_v47]

theorem cdfOps_writes : (cdfOps : List (HloOp τ sig (Elt F))).Forall fun op => op.writes ⊆ (cdfOps_W.map (Proc.devRef (τ := τ) .tc)).toFinset :=
  StableHlo.forall_writes_sub_of_map rfl

/-- The operations computing for each sampling point the first nearest running sum. -/
abbrev pickOps : List (HloOp τ sig (Elt F)) :=
  [ StableHlo.unary main_v47 main_v48 (broadcastInDim S32x1x196 ![0, 2] bcast_S32x196_S32x1x196_0_2 : (⟨S32x196, .f32⟩ : BufTy).Contents (Elt F) → (⟨S32x1x196, .f32⟩ : BufTy).Contents (Elt F)),
    StableHlo.reshape main_arg4 main_v49 (rfl : (.f32 : EltTy) = .f32) shapeCasts_S1x196_S196,
    StableHlo.unary main_v49 main_v50 (broadcastInDim S1x196x1 ![1] bcast_S196_S1x196x1_1 : (⟨S196, .f32⟩ : BufTy).Contents (Elt F) → (⟨S1x196x1, .f32⟩ : BufTy).Contents (Elt F)),
    StableHlo.unary main_v50 main_v51 (broadcastInDim S32x196x196 ![0, 1, 2] bcast_S1x196x1_S32x196x196_0_1_2 : (⟨S1x196x1, .f32⟩ : BufTy).Contents (Elt F) → (⟨S32x196x196, .f32⟩ : BufTy).Contents (Elt F)),
    StableHlo.unary main_v48 main_v52 (broadcastInDim S32x196x196 ![0, 1, 2] bcast_S32x1x196_S32x196x196_0_1_2 : (⟨S32x1x196, .f32⟩ : BufTy).Contents (Elt F) → (⟨S32x196x196, .f32⟩ : BufTy).Contents (Elt F)),
    StableHlo.binary main_v51 main_v52 main_v53 (subf : (⟨S32x196x196, .f32⟩ : BufTy).Contents (Elt F) → (⟨S32x196x196, .f32⟩ : BufTy).Contents (Elt F) → (⟨S32x196x196, .f32⟩ : BufTy).Contents (Elt F)),
    StableHlo.unary main_v53 main_v54 (Host.absf : (⟨S32x196x196, .f32⟩ : BufTy).Contents (Elt F) → (⟨S32x196x196, .f32⟩ : BufTy).Contents (Elt F)),
    StableHlo.TRef.nullary (.of main_call4_v0 : StableHlo.TRef sig ⟨S32x196x196, .i32⟩) (iotaInDim S32x196x196 32 2),
    StableHlo.TRef.nullary (.of main_call4_cst : StableHlo.TRef sig ⟨S_, .f32⟩) (constant S_ .f32 0x7F800000#32),
    StableHlo.TRef.nullary (.of main_call4_c : StableHlo.TRef sig ⟨S_, .i32⟩) (constantI S_ 32 0#32),
    StableHlo.TRef.quaternary (.of main_v54 : StableHlo.TRef sig ⟨S32x196x196, .f32⟩) (.of main_call4_v0 : StableHlo.TRef sig ⟨S32x196x196, .i32⟩) (.of main_call4_cst : StableHlo.TRef sig ⟨S_, .f32⟩) (.of main_call4_c : StableHlo.TRef sig ⟨S_, .i32⟩) (.of main_call4_v1_0 : StableHlo.TRef sig ⟨S32x196, .f32⟩) (fun x y u v j => (Host.argReduce reducer_argmin_f32_i32 x y u v reducesTo_S32x196x196_S32x196_d2 h_S_ j).1),
    StableHlo.TRef.quaternary (.of main_v54 : StableHlo.TRef sig ⟨S32x196x196, .f32⟩) (.of main_call4_v0 : StableHlo.TRef sig ⟨S32x196x196, .i32⟩) (.of main_call4_cst : StableHlo.TRef sig ⟨S_, .f32⟩) (.of main_call4_c : StableHlo.TRef sig ⟨S_, .i32⟩) (.of main_v55 : StableHlo.TRef sig ⟨S32x196, .i32⟩) (fun x y u v j => (Host.argReduce reducer_argmin_f32_i32 x y u v reducesTo_S32x196x196_S32x196_d2 h_S_ j).2) ]

theorem pickOps_sub : (pickOps : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.nullary_bufs_sub .., StableHlo.nullary_bufs_sub .., StableHlo.nullary_bufs_sub .., StableHlo.quaternary_bufs_sub .., StableHlo.quaternary_bufs_sub ..⟩

theorem pickOps_fresh : (pickOps : List (HloOp τ sig (Elt F))).Forall fun op => op.fresh = ∅ := by
  simp only [List.Forall]; repeat' constructor

/-- What they write. -/
abbrev pickOps_W : List (Ref sig .tc) := [main_v48, main_v49, main_v50, main_v51, main_v52, main_v53, main_v54, main_call4_v0, main_call4_cst, main_call4_c, main_call4_v1_0, main_v55]

theorem pickOps_writes : (pickOps : List (HloOp τ sig (Elt F))).Forall fun op => op.writes ⊆ (pickOps_W.map (Proc.devRef (τ := τ) .tc)).toFinset :=
  StableHlo.forall_writes_sub_of_map rfl

/-- The operations computing the tokens without the class token. -/
abbrev sliceOps : List (HloOp τ sig (Elt F)) :=
  [ StableHlo.unary main_arg1 main_v56 ((extractStridedSlice S32x196x384 ![0, 1, 0] · slices_S32x197x384_S32x196x384_0_1_0) : (⟨S32x197x384, .f32⟩ : BufTy).Contents (Elt F) → (⟨S32x196x384, .f32⟩ : BufTy).Contents (Elt F)) ]

theorem sliceOps_sub : (sliceOps : List (HloOp τ sig (Elt F))).Forall fun op => op.bufs ⊆ StableHlo.tcRefs τ sig :=
  StableHlo.unary_bufs_sub ..

theorem sliceOps_fresh : (sliceOps : List (HloOp τ sig (Elt F))).Forall fun op => op.fresh = ∅ := by
  simp only [List.Forall]; repeat' constructor

/-- What they write. -/
abbrev sliceOps_W : List (Ref sig .tc) := [main_v56]

theorem sliceOps_writes : (sliceOps : List (HloOp τ sig (Elt F))).Forall fun op => op.writes ⊆ (sliceOps_W.map (Proc.devRef (τ := τ) .tc)).toFinset :=
  StableHlo.forall_writes_sub_of_map rfl

/-- The operations computing the tokens in the order of their scores. -/
abbrev gatherOps : List (HloOp τ sig (Elt F)) :=
  [ StableHlo.unary main_v36 main_v57 (broadcastInDim S32x196x1 ![0, 1] bcast_S32x196_S32x196x1_0_1 : (⟨S32x196, .i32⟩ : BufTy).Contents (Elt F) → (⟨S32x196x1, .i32⟩ : BufTy).Contents (Elt F)),
    StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S32x196x1, .i32⟩) (broadcastInDim S32x196x1 ![] bcast_S_S32x196x1),
    StableHlo.TRef.binary (.of main_v57 : StableHlo.TRef sig ⟨S32x196x1, .i32⟩) (.of main_call5_v0 : StableHlo.TRef sig ⟨S32x196x1, .i32⟩) (.of main_call5_v1 : StableHlo.TRef sig ⟨S32x196x1, .i1⟩) (cmpi .slt),
    StableHlo.TRef.nullary (.of main_call5_c_0 : StableHlo.TRef sig ⟨S_, .i32⟩) (constantI S_ 32 196#32),
    StableHlo.TRef.unary (.of main_call5_c_0 : StableHlo.TRef sig ⟨S_, .i32⟩) (.of main_call5_v2 : StableHlo.TRef sig ⟨S32x196x1, .i32⟩) (broadcastInDim S32x196x1 ![] bcast_S_S32x196x1),
    StableHlo.TRef.binary (.of main_v57 : StableHlo.TRef sig ⟨S32x196x1, .i32⟩) (.of main_call5_v2 : StableHlo.TRef sig ⟨S32x196x1, .i32⟩) (.of main_call5_v3 : StableHlo.TRef sig ⟨S32x196x1, .i32⟩) addi,
    StableHlo.TRef.ternary (.of main_call5_v1 : StableHlo.TRef sig ⟨S32x196x1, .i1⟩) (.of main_call5_v3 : StableHlo.TRef sig ⟨S32x196x1, .i32⟩) (.of main_v57 : StableHlo.TRef sig ⟨S32x196x1, .i32⟩) (.of main_call5_v4 : StableHlo.TRef sig ⟨S32x196x1, .i32⟩) select,
    StableHlo.TRef.nullary (.of main_call5_c_1 : StableHlo.TRef sig ⟨S1, .i32⟩) (constantI S1 32 195#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v5 : StableHlo.TRef sig ⟨S32x196x1, .i32⟩) (broadcastInDim S32x196x1 ![] bcast_S_S32x196x1),
    StableHlo.TRef.binary (.of main_call5_v4 : StableHlo.TRef sig ⟨S32x196x1, .i32⟩) (.of main_call5_v5 : StableHlo.TRef sig ⟨S32x196x1, .i32⟩) (.of main_call5_v6 : StableHlo.TRef sig ⟨S32x196x1, .i1⟩) (cmpi .sge),
    StableHlo.TRef.unary (.of main_call5_c_1 : StableHlo.TRef sig ⟨S1, .i32⟩) (.of main_call5_v7 : StableHlo.TRef sig ⟨S1x1x1, .i32⟩) (broadcastInDim S1x1x1 ![2] bcast_S1_S1x1x1_2),
    StableHlo.TRef.unary (.of main_call5_v7 : StableHlo.TRef sig ⟨S1x1x1, .i32⟩) (.of main_call5_v8 : StableHlo.TRef sig ⟨S32x196x1, .i32⟩) (broadcastInDim S32x196x1 ![0, 1, 2] bcast_S1x1x1_S32x196x1_0_1_2),
    StableHlo.TRef.binary (.of main_call5_v4 : StableHlo.TRef sig ⟨S32x196x1, .i32⟩) (.of main_call5_v8 : StableHlo.TRef sig ⟨S32x196x1, .i32⟩) (.of main_call5_v9 : StableHlo.TRef sig ⟨S32x196x1, .i1⟩) (cmpi .sle),
    StableHlo.TRef.binary (.of main_call5_v6 : StableHlo.TRef sig ⟨S32x196x1, .i1⟩) (.of main_call5_v9 : StableHlo.TRef sig ⟨S32x196x1, .i1⟩) (.of main_call5_v10 : StableHlo.TRef sig ⟨S32x196x1, .i1⟩) andi,
    StableHlo.TRef.nullary (.of main_call5_c_3 : StableHlo.TRef sig ⟨S_, .i1⟩) (constantI S_ 1 1#1),
    StableHlo.TRef.binary (.of main_call5_v10 : StableHlo.TRef sig ⟨S32x196x1, .i1⟩) (.of main_call5_c_3 : StableHlo.TRef sig ⟨S_, .i1⟩) (.of main_call5_v11 : StableHlo.TRef sig ⟨S32x196, .i1⟩) (fun x v => Host.reduce IntOp.andi x v reducesTo_S32x196x1_S32x196_d2 h_S_),
    StableHlo.TRef.binary (.of main_v56 : StableHlo.TRef sig ⟨S32x196x384, .f32⟩) (.of main_call5_v4 : StableHlo.TRef sig ⟨S32x196x1, .i32⟩) (.of main_call5_v12 : StableHlo.TRef sig ⟨S32x196x384, .f32⟩) (fun x i => Host.gather gather_S32x196x384_S32x196x1_S32x196x384_2_1_0_0_1_2_11384 x i),
    StableHlo.TRef.unary (.of main_call5_v11 : StableHlo.TRef sig ⟨S32x196, .i1⟩) (.of main_call5_v13 : StableHlo.TRef sig ⟨S32x196x384, .i1⟩) (broadcastInDim S32x196x384 ![0, 1] bcast_S32x196_S32x196x384_0_1),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v14 : StableHlo.TRef sig ⟨S32x196x384, .f32⟩) (broadcastInDim S32x196x384 ![] bcast_S_S32x196x384),
    StableHlo.TRef.ternary (.of main_call5_v13 : StableHlo.TRef sig ⟨S32x196x384, .i1⟩) (.of main_call5_v12 : StableHlo.TRef sig ⟨S32x196x384, .f32⟩) (.of main_call5_v14 : StableHlo.TRef sig ⟨S32x196x384, .f32⟩) (.of main_v58 : StableHlo.TRef sig ⟨S32x196x384, .f32⟩) select ]

theorem gatherOps_sub : (gatherOps : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem gatherOps_fresh : (gatherOps : List (HloOp τ sig (Elt F))).Forall fun op => op.fresh = ∅ := by
  simp only [List.Forall]; repeat' constructor

/-- What they write. -/
abbrev gatherOps_W : List (Ref sig .tc) := [main_v57, main_call5_c, main_call5_v0, main_call5_v1, main_call5_c_0, main_call5_v2, main_call5_v3, main_call5_v4, main_call5_c_1, main_call5_c_2, main_call5_v5, main_call5_v6, main_call5_v7, main_call5_v8, main_call5_v9, main_call5_v10, main_call5_c_3, main_call5_v11, main_call5_v12, main_call5_v13, main_call5_cst, main_call5_v14, main_v58]

theorem gatherOps_writes : (gatherOps : List (HloOp τ sig (Elt F))).Forall fun op => op.writes ⊆ (gatherOps_W.map (Proc.devRef (τ := τ) .tc)).toFinset :=
  StableHlo.forall_writes_sub_of_map rfl

/-- The operations computing the tokens picked. -/
abbrev gatherOps2 : List (HloOp τ sig (Elt F)) :=
  [ StableHlo.unary main_v55 main_v59 (broadcastInDim S32x196x1 ![0, 1] bcast_S32x196_S32x196x1_0_1 : (⟨S32x196, .i32⟩ : BufTy).Contents (Elt F) → (⟨S32x196x1, .i32⟩ : BufTy).Contents (Elt F)),
    StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S32x196x1, .i32⟩) (broadcastInDim S32x196x1 ![] bcast_S_S32x196x1),
    StableHlo.TRef.binary (.of main_v59 : StableHlo.TRef sig ⟨S32x196x1, .i32⟩) (.of main_call6_v0 : StableHlo.TRef sig ⟨S32x196x1, .i32⟩) (.of main_call6_v1 : StableHlo.TRef sig ⟨S32x196x1, .i1⟩) (cmpi .slt),
    StableHlo.TRef.nullary (.of main_call6_c_0 : StableHlo.TRef sig ⟨S_, .i32⟩) (constantI S_ 32 196#32),
    StableHlo.TRef.unary (.of main_call6_c_0 : StableHlo.TRef sig ⟨S_, .i32⟩) (.of main_call6_v2 : StableHlo.TRef sig ⟨S32x196x1, .i32⟩) (broadcastInDim S32x196x1 ![] bcast_S_S32x196x1),
    StableHlo.TRef.binary (.of main_v59 : StableHlo.TRef sig ⟨S32x196x1, .i32⟩) (.of main_call6_v2 : StableHlo.TRef sig ⟨S32x196x1, .i32⟩) (.of main_call6_v3 : StableHlo.TRef sig ⟨S32x196x1, .i32⟩) addi,
    StableHlo.TRef.ternary (.of main_call6_v1 : StableHlo.TRef sig ⟨S32x196x1, .i1⟩) (.of main_call6_v3 : StableHlo.TRef sig ⟨S32x196x1, .i32⟩) (.of main_v59 : StableHlo.TRef sig ⟨S32x196x1, .i32⟩) (.of main_call6_v4 : StableHlo.TRef sig ⟨S32x196x1, .i32⟩) select,
    StableHlo.TRef.nullary (.of main_call6_c_1 : StableHlo.TRef sig ⟨S1, .i32⟩) (constantI S1 32 195#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v5 : StableHlo.TRef sig ⟨S32x196x1, .i32⟩) (broadcastInDim S32x196x1 ![] bcast_S_S32x196x1),
    StableHlo.TRef.binary (.of main_call6_v4 : StableHlo.TRef sig ⟨S32x196x1, .i32⟩) (.of main_call6_v5 : StableHlo.TRef sig ⟨S32x196x1, .i32⟩) (.of main_call6_v6 : StableHlo.TRef sig ⟨S32x196x1, .i1⟩) (cmpi .sge),
    StableHlo.TRef.unary (.of main_call6_c_1 : StableHlo.TRef sig ⟨S1, .i32⟩) (.of main_call6_v7 : StableHlo.TRef sig ⟨S1x1x1, .i32⟩) (broadcastInDim S1x1x1 ![2] bcast_S1_S1x1x1_2),
    StableHlo.TRef.unary (.of main_call6_v7 : StableHlo.TRef sig ⟨S1x1x1, .i32⟩) (.of main_call6_v8 : StableHlo.TRef sig ⟨S32x196x1, .i32⟩) (broadcastInDim S32x196x1 ![0, 1, 2] bcast_S1x1x1_S32x196x1_0_1_2),
    StableHlo.TRef.binary (.of main_call6_v4 : StableHlo.TRef sig ⟨S32x196x1, .i32⟩) (.of main_call6_v8 : StableHlo.TRef sig ⟨S32x196x1, .i32⟩) (.of main_call6_v9 : StableHlo.TRef sig ⟨S32x196x1, .i1⟩) (cmpi .sle),
    StableHlo.TRef.binary (.of main_call6_v6 : StableHlo.TRef sig ⟨S32x196x1, .i1⟩) (.of main_call6_v9 : StableHlo.TRef sig ⟨S32x196x1, .i1⟩) (.of main_call6_v10 : StableHlo.TRef sig ⟨S32x196x1, .i1⟩) andi,
    StableHlo.TRef.nullary (.of main_call6_c_3 : StableHlo.TRef sig ⟨S_, .i1⟩) (constantI S_ 1 1#1),
    StableHlo.TRef.binary (.of main_call6_v10 : StableHlo.TRef sig ⟨S32x196x1, .i1⟩) (.of main_call6_c_3 : StableHlo.TRef sig ⟨S_, .i1⟩) (.of main_call6_v11 : StableHlo.TRef sig ⟨S32x196, .i1⟩) (fun x v => Host.reduce IntOp.andi x v reducesTo_S32x196x1_S32x196_d2 h_S_),
    StableHlo.TRef.binary (.of main_v58 : StableHlo.TRef sig ⟨S32x196x384, .f32⟩) (.of main_call6_v4 : StableHlo.TRef sig ⟨S32x196x1, .i32⟩) (.of main_call6_v12 : StableHlo.TRef sig ⟨S32x196x384, .f32⟩) (fun x i => Host.gather gather_S32x196x384_S32x196x1_S32x196x384_2_1_0_0_1_2_11384 x i),
    StableHlo.TRef.unary (.of main_call6_v11 : StableHlo.TRef sig ⟨S32x196, .i1⟩) (.of main_call6_v13 : StableHlo.TRef sig ⟨S32x196x384, .i1⟩) (broadcastInDim S32x196x384 ![0, 1] bcast_S32x196_S32x196x384_0_1),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S32x196x384, .f32⟩) (broadcastInDim S32x196x384 ![] bcast_S_S32x196x384),
    StableHlo.TRef.ternary (.of main_call6_v13 : StableHlo.TRef sig ⟨S32x196x384, .i1⟩) (.of main_call6_v12 : StableHlo.TRef sig ⟨S32x196x384, .f32⟩) (.of main_call6_v14 : StableHlo.TRef sig ⟨S32x196x384, .f32⟩) (.of main_v60 : StableHlo.TRef sig ⟨S32x196x384, .f32⟩) select ]

theorem gatherOps2_sub : (gatherOps2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem gatherOps2_fresh : (gatherOps2 : List (HloOp τ sig (Elt F))).Forall fun op => op.fresh = ∅ := by
  simp only [List.Forall]; repeat' constructor

/-- What they write. -/
abbrev gatherOps2_W : List (Ref sig .tc) := [main_v59, main_call6_c, main_call6_v0, main_call6_v1, main_call6_c_0, main_call6_v2, main_call6_v3, main_call6_v4, main_call6_c_1, main_call6_c_2, main_call6_v5, main_call6_v6, main_call6_v7, main_call6_v8, main_call6_v9, main_call6_v10, main_call6_c_3, main_call6_v11, main_call6_v12, main_call6_v13, main_call6_cst, main_call6_v14, main_v60]

theorem gatherOps2_writes : (gatherOps2 : List (HloOp τ sig (Elt F))).Forall fun op => op.writes ⊆ (gatherOps2_W.map (Proc.devRef (τ := τ) .tc)).toFinset :=
  StableHlo.forall_writes_sub_of_map rfl

/-- The operations computing the class token put back in front. -/
abbrev outOps : List (HloOp τ sig (Elt F)) :=
  [ StableHlo.unary main_arg1 main_v61 ((extractStridedSlice S32x1x384 ![0, 0, 0] · slices_S32x197x384_S32x1x384_0_0_0) : (⟨S32x197x384, .f32⟩ : BufTy).Contents (Elt F) → (⟨S32x1x384, .f32⟩ : BufTy).Contents (Elt F)),
    StableHlo.binary main_v61 main_v60 main_v62 ((fun a b => concatenate S32x197x384 1 [⟨S32x1x384, a⟩, ⟨S32x196x384, b⟩] concatenates_S32x1x384_S32x196x384_S32x197x384_d1) : (⟨S32x1x384, .f32⟩ : BufTy).Contents (Elt F) → (⟨S32x196x384, .f32⟩ : BufTy).Contents (Elt F) → (⟨S32x197x384, .f32⟩ : BufTy).Contents (Elt F)) ]

theorem outOps_sub : (outOps : List (HloOp τ sig (Elt F))).Forall fun op => op.bufs ⊆ StableHlo.tcRefs τ sig :=
  ⟨StableHlo.unary_bufs_sub .., StableHlo.binary_bufs_sub ..⟩

theorem outOps_fresh : (outOps : List (HloOp τ sig (Elt F))).Forall fun op => op.fresh = ∅ := by
  simp only [List.Forall]; repeat' constructor

/-- What they write. -/
abbrev outOps_W : List (Ref sig .tc) := [main_v61, main_v62]

theorem outOps_writes : (outOps : List (HloOp τ sig (Elt F))).Forall fun op => op.writes ⊆ (outOps_W.map (Proc.devRef (τ := τ) .tc)).toFinset :=
  StableHlo.forall_writes_sub_of_map rfl

/-- All of them, in order. -/
abbrev allOps : List (HloOp τ sig (Elt F)) :=
  attnOps ++ (normOps ++ (scoreOps ++ (orderOps ++ (sortedOps ++ (cdfOps ++ (pickOps ++ (sliceOps ++ (gatherOps ++ (gatherOps2 ++ (outOps))))))))))

/-- The printed program is the run of these operations. -/
theorem main_eq (d : Dev nD) : main (F := F) d = StableHlo.seq allOps := by chain_rfl

theorem allOps_sub : (allOps : List (HloOp τ sig (Elt F))).Forall fun op => op.bufs ⊆ StableHlo.tcRefs τ sig := by
  simp only [allOps, List.forall_append]
  exact ⟨attnOps_sub, normOps_sub, scoreOps_sub, orderOps_sub, sortedOps_sub, cdfOps_sub, pickOps_sub, sliceOps_sub, gatherOps_sub, gatherOps2_sub, outOps_sub⟩

theorem allOps_fresh : (allOps : List (HloOp τ sig (Elt F))).Forall fun op => op.fresh = ∅ := by
  simp only [allOps, List.forall_append]
  exact ⟨attnOps_fresh, normOps_fresh, scoreOps_fresh, orderOps_fresh, sortedOps_fresh, cdfOps_fresh, pickOps_fresh, sliceOps_fresh, gatherOps_fresh, gatherOps2_fresh, outOps_fresh⟩

variable (m : (ℓ : Loc nD τ sig) → Buf (Elt F) ℓ) (ρ : Dev nD → PrngReg)

/-- The contents of the buffers at launch, and after each group of operations. -/
abbrev U0 (d : Dev nD) : Valuation τ sig (Elt F) := StableHlo.launchContents m d
def U1 (d : Dev nD) : Valuation τ sig (Elt F) := StableHlo.after attnOps (U0 m d)
def U2 (d : Dev nD) : Valuation τ sig (Elt F) := StableHlo.after normOps (U1 m d)
def U3 (d : Dev nD) : Valuation τ sig (Elt F) := StableHlo.after scoreOps (U2 m d)
def U4 (d : Dev nD) : Valuation τ sig (Elt F) := StableHlo.after orderOps (U3 m d)
def U5 (d : Dev nD) : Valuation τ sig (Elt F) := StableHlo.after sortedOps (U4 m d)
def U6 (d : Dev nD) : Valuation τ sig (Elt F) := StableHlo.after cdfOps (U5 m d)
def U7 (d : Dev nD) : Valuation τ sig (Elt F) := StableHlo.after pickOps (U6 m d)
def U8 (d : Dev nD) : Valuation τ sig (Elt F) := StableHlo.after sliceOps (U7 m d)
def U9 (d : Dev nD) : Valuation τ sig (Elt F) := StableHlo.after gatherOps (U8 m d)
def U10 (d : Dev nD) : Valuation τ sig (Elt F) := StableHlo.after gatherOps2 (U9 m d)
def U11 (d : Dev nD) : Valuation τ sig (Elt F) := StableHlo.after outOps (U10 m d)
theorem U1_of (d : Dev nD) (r : Ref sig .tc) (h : r ∉ attnOps_W) : U1 m d (Proc.devRef .tc r) = U0 m d (Proc.devRef .tc r) :=
  StableHlo.after_of_writes_sub attnOps _ attnOps_writes h
theorem U2_of (d : Dev nD) (r : Ref sig .tc) (h : r ∉ normOps_W) : U2 m d (Proc.devRef .tc r) = U1 m d (Proc.devRef .tc r) :=
  StableHlo.after_of_writes_sub normOps _ normOps_writes h
theorem U3_of (d : Dev nD) (r : Ref sig .tc) (h : r ∉ scoreOps_W) : U3 m d (Proc.devRef .tc r) = U2 m d (Proc.devRef .tc r) :=
  StableHlo.after_of_writes_sub scoreOps _ scoreOps_writes h
theorem U4_of (d : Dev nD) (r : Ref sig .tc) (h : r ∉ orderOps_W) : U4 m d (Proc.devRef .tc r) = U3 m d (Proc.devRef .tc r) :=
  StableHlo.after_of_writes_sub orderOps _ orderOps_writes h
theorem U5_of (d : Dev nD) (r : Ref sig .tc) (h : r ∉ sortedOps_W) : U5 m d (Proc.devRef .tc r) = U4 m d (Proc.devRef .tc r) :=
  StableHlo.after_of_writes_sub sortedOps _ sortedOps_writes h
theorem U6_of (d : Dev nD) (r : Ref sig .tc) (h : r ∉ cdfOps_W) : U6 m d (Proc.devRef .tc r) = U5 m d (Proc.devRef .tc r) :=
  StableHlo.after_of_writes_sub cdfOps _ cdfOps_writes h
theorem U7_of (d : Dev nD) (r : Ref sig .tc) (h : r ∉ pickOps_W) : U7 m d (Proc.devRef .tc r) = U6 m d (Proc.devRef .tc r) :=
  StableHlo.after_of_writes_sub pickOps _ pickOps_writes h
theorem U8_of (d : Dev nD) (r : Ref sig .tc) (h : r ∉ sliceOps_W) : U8 m d (Proc.devRef .tc r) = U7 m d (Proc.devRef .tc r) :=
  StableHlo.after_of_writes_sub sliceOps _ sliceOps_writes h
theorem U9_of (d : Dev nD) (r : Ref sig .tc) (h : r ∉ gatherOps_W) : U9 m d (Proc.devRef .tc r) = U8 m d (Proc.devRef .tc r) :=
  StableHlo.after_of_writes_sub gatherOps _ gatherOps_writes h
theorem U10_of (d : Dev nD) (r : Ref sig .tc) (h : r ∉ gatherOps2_W) : U10 m d (Proc.devRef .tc r) = U9 m d (Proc.devRef .tc r) :=
  StableHlo.after_of_writes_sub gatherOps2 _ gatherOps2_writes h
theorem U11_of (d : Dev nD) (r : Ref sig .tc) (h : r ∉ outOps_W) : U11 m d (Proc.devRef .tc r) = U10 m d (Proc.devRef .tc r) :=
  StableHlo.after_of_writes_sub outOps _ outOps_writes h

theorem after_all (d : Dev nD) : StableHlo.after allOps (U0 m d) = U11 m d := by
  simp only [allOps, StableHlo.after_append]; rfl

/-- The argument arrays. -/
abbrev argRefs : List (Ref sig .tc) := [main_arg0, main_arg1, main_arg2, main_arg3, main_arg4, main_arg5]

theorem attnOps_args : ∀ a ∈ argRefs, a ∉ attnOps_W := by decide +kernel
theorem normOps_args : ∀ a ∈ argRefs, a ∉ normOps_W := by decide +kernel
theorem scoreOps_args : ∀ a ∈ argRefs, a ∉ scoreOps_W := by decide +kernel
theorem orderOps_args : ∀ a ∈ argRefs, a ∉ orderOps_W := by decide +kernel
theorem sortedOps_args : ∀ a ∈ argRefs, a ∉ sortedOps_W := by decide +kernel
theorem cdfOps_args : ∀ a ∈ argRefs, a ∉ cdfOps_W := by decide +kernel
theorem pickOps_args : ∀ a ∈ argRefs, a ∉ pickOps_W := by decide +kernel
theorem sliceOps_args : ∀ a ∈ argRefs, a ∉ sliceOps_W := by decide +kernel
theorem gatherOps_args : ∀ a ∈ argRefs, a ∉ gatherOps_W := by decide +kernel
theorem gatherOps2_args : ∀ a ∈ argRefs, a ∉ gatherOps2_W := by decide +kernel
theorem outOps_args : ∀ a ∈ argRefs, a ∉ outOps_W := by decide +kernel

/-- No group writes an argument. -/
theorem U11_args (d : Dev nD) (a : Ref sig .tc) (ha : a ∈ argRefs) : U11 m d (Proc.devRef .tc a) = m ((d.tc : Thread nD τ).loc a) := by
  rw [U11_of m d a (outOps_args a ha), U10_of m d a (gatherOps2_args a ha), U9_of m d a (gatherOps_args a ha), U8_of m d a (sliceOps_args a ha), U7_of m d a (pickOps_args a ha), U6_of m d a (cdfOps_args a ha), U5_of m d a (sortedOps_args a ha), U4_of m d a (orderOps_args a ha), U3_of m d a (scoreOps_args a ha), U2_of m d a (normOps_args a ha), U1_of m d a (attnOps_args a ha)]

/-- The run: every buffer ends at what the operations leave, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v62) = U11 m c (Proc.devRef .tc main_v62))
      ∧ r.2.sem = fun _ => 0) := by
  refine θ_run_mono (StableHlo.run_seq (by decide) (by decide) defs main (fun _ => allOps) main_eq (fun _ => allOps_sub) m ρ
    fun _ op h => (List.forall_iff_forall_mem.mp allOps_fresh) op h) fun r h => ⟨fun c => ?_, sem_eq_zero_of_no_sems (by decide) _⟩
  rw [h c main_arg0, h c main_arg1, h c main_arg2, h c main_arg3, h c main_arg4, h c main_arg5, h c main_v62, after_all]
  exact ⟨U11_args m c _ (by decide), U11_args m c _ (by decide), U11_args m c _ (by decide), U11_args m c _ (by decide),
    U11_args m c _ (by decide), U11_args m c _ (by decide), rfl⟩

/-- The frame claim. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => let ⟨h0, h1, h2, h3, h4, h5, _⟩ := h.1 c; ⟨h0, h1, h2, h3, h4, h5⟩, h.2⟩) (run m ρ)

end Cert.ReferenceIdeal.Ref

end
-- ==== Proof.Reference.Stages.lean ====
/- What each group of the reference's operations leaves, as a function of the arrays it reads. -/
module

public import proofs.«01_k».proof.Proof.Reference.Ops

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

variable {F : FTy → Type} [FloatOps F]

/-- The attention weights of every head. -/
def attn (x : Vec F S32x197x384 .f32) (w : Vec F S1152x384 .f32) : Vec F S32x12x197x197 .f32 :=
  have v0 : Vec F S384x1152 .f32 := ((transpose S384x1152 [1, 0] · transposes_S1152x384_S384x1152_1_0)) w
  have v1 : Vec F S32x197x1152 .f32 := ((fun l r => Host.dotGeneral dot_S32x197x384_S384x1152_S32x197x1152_2_0_01_1_n_n none l r)) x v0
  have v2 : Vec F S32x197x3x12x32 .f32 := shapeCast S32x197x3x12x32 v1 shapeCasts_S32x197x1152_S32x197x3x12x32
  have v3 : Vec F S3x32x12x197x32 .f32 := ((transpose S3x32x12x197x32 [2, 0, 3, 1, 4] · transposes_S32x197x3x12x32_S3x32x12x197x32_2_0_3_1_4)) v2
  have v4 : Vec F S1x32x12x197x32 .f32 := ((extractStridedSlice S1x32x12x197x32 ![0, 0, 0, 0, 0] · slices_S3x32x12x197x32_S1x32x12x197x32_0_0_0_0_0)) v3
  have v5 : Vec F S32x12x197x32 .f32 := shapeCast S32x12x197x32 v4 shapeCasts_S1x32x12x197x32_S32x12x197x32
  have v6 : Vec F S1x32x12x197x32 .f32 := ((extractStridedSlice S1x32x12x197x32 ![1, 0, 0, 0, 0] · slices_S3x32x12x197x32_S1x32x12x197x32_1_0_0_0_0)) v3
  have v7 : Vec F S32x12x197x32 .f32 := shapeCast S32x12x197x32 v6 shapeCasts_S1x32x12x197x32_S32x12x197x32
  have v10 : Vec F S32x12x197x197 .f32 := ((fun l r => Host.dotGeneral dot_S32x12x197x32_S32x12x197x32_S32x12x197x197_3_3_2_2_01_01 none l r)) v5 v7
  have cst : Vec F S_ .f32 := (constant S_ .f32 0x3E3504F3#32)
  have v11 : Vec F S32x12x197x197 .f32 := (broadcastInDim S32x12x197x197 ![] bcast_S_S32x12x197x197) cst
  have v12 : Vec F S32x12x197x197 .f32 := (mulf) v10 v11
  have cst_0 : Vec F S_ .f32 := (constant S_ .f32 0xFF800000#32)
  have v13 : Vec F S32x12x197 .f32 := ((fun x v => Host.reduce FloatOps.maximumf x v reducesTo_S32x12x197x197_S32x12x197_d3 h_S_)) v12 cst_0
  have cst_1 : Vec F S_ .f32 := (constant S_ .f32 0xFF800000#32)
  have v14 : Vec F S32x12x197 .f32 := (broadcastInDim S32x12x197 ![] bcast_S_S32x12x197) cst_1
  have v15 : Vec F S32x12x197 .f32 := (maximumf) v14 v13
  have v16 : Vec F S32x12x197x1 .f32 := (broadcastInDim S32x12x197x1 ![0, 1, 2] bcast_S32x12x197_S32x12x197x1_0_1_2) v15
  have v17 : Vec F S32x12x197x197 .f32 := (broadcastInDim S32x12x197x197 ![0, 1, 2, 3] bcast_S32x12x197x1_S32x12x197x197_0_1_2_3) v16
  have v18 : Vec F S32x12x197x197 .f32 := (subf) v12 v17
  have v19 : Vec F S32x12x197x197 .f32 := (Host.exp) v18
  have cst_2 : Vec F S_ .f32 := (constant S_ .f32 0x00000000#32)
  have v20 : Vec F S32x12x197 .f32 := ((fun x v => Host.reduceAdd x v reducesTo_S32x12x197x197_S32x12x197_d3 h_S_)) v19 cst_2
  have v21 : Vec F S32x12x197x1 .f32 := (broadcastInDim S32x12x197x1 ![0, 1, 2] bcast_S32x12x197_S32x12x197x1_0_1_2) v20
  have v22 : Vec F S32x12x197x197 .f32 := (broadcastInDim S32x12x197x197 ![0, 1, 2, 3] bcast_S32x12x197x1_S32x12x197x197_0_1_2_3) v21
  have v23 : Vec F S32x12x197x197 .f32 := (Host.divf) v19 v22
  v23

/-- The value rows, the heads side by side. -/
def vals (x : Vec F S32x197x384 .f32) (w : Vec F S1152x384 .f32) : Vec F S32x197x384 .f32 :=
  have v0 : Vec F S384x1152 .f32 := ((transpose S384x1152 [1, 0] · transposes_S1152x384_S384x1152_1_0)) w
  have v1 : Vec F S32x197x1152 .f32 := ((fun l r => Host.dotGeneral dot_S32x197x384_S384x1152_S32x197x1152_2_0_01_1_n_n none l r)) x v0
  have v2 : Vec F S32x197x3x12x32 .f32 := shapeCast S32x197x3x12x32 v1 shapeCasts_S32x197x1152_S32x197x3x12x32
  have v3 : Vec F S3x32x12x197x32 .f32 := ((transpose S3x32x12x197x32 [2, 0, 3, 1, 4] · transposes_S32x197x3x12x32_S3x32x12x197x32_2_0_3_1_4)) v2
  have v8 : Vec F S1x32x12x197x32 .f32 := ((extractStridedSlice S1x32x12x197x32 ![2, 0, 0, 0, 0] · slices_S3x32x12x197x32_S1x32x12x197x32_2_0_0_0_0)) v3
  have v9 : Vec F S32x12x197x32 .f32 := shapeCast S32x12x197x32 v8 shapeCasts_S1x32x12x197x32_S32x12x197x32
  have v24 : Vec F S32x197x12x32 .f32 := ((transpose S32x197x12x32 [0, 2, 1, 3] · transposes_S32x12x197x32_S32x197x12x32_0_2_1_3)) v9
  have v25 : Vec F S32x197x384 .f32 := shapeCast S32x197x384 v24 shapeCasts_S32x197x12x32_S32x197x384
  v25

/-- The norm of each value row. -/
def vnorm (vals : Vec F S32x197x384 .f32) : Vec F S32x197 .f32 :=
  have call0_v0 : Vec F S32x197x384 .f32 := mulf vals vals
  have call0_cst : Vec F S_ .f32 := (constant S_ .f32 0x00000000#32)
  have call0_v1 : Vec F S32x197 .f32 := (fun x v => Host.reduceAdd x v reducesTo_S32x197x384_S32x197_d2 h_S_) call0_v0 call0_cst
  have v26 : Vec F S32x197 .f32 := Host.sqrt call0_v1
  v26

/-- The normalised scores. -/
def score (attn : Vec F S32x12x197x197 .f32) (vnorm : Vec F S32x197 .f32) : Vec F S32x196 .f32 :=
  have v27 : Vec F S32x12x1x197 .f32 := ((extractStridedSlice S32x12x1x197 ![0, 0, 0, 0] · slices_S32x12x197x197_S32x12x1x197_0_0_0_0)) attn
  have v28 : Vec F S32x12x197 .f32 := shapeCast S32x12x197 v27 shapeCasts_S32x12x1x197_S32x12x197
  have cst_3 : Vec F S_ .f32 := (constant S_ .f32 0x00000000#32)
  have v29 : Vec F S32x197 .f32 := ((fun x v => Host.reduceAdd x v reducesTo_S32x12x197_S32x197_d1 h_S_)) v28 cst_3
  have v30 : Vec F S32x197 .f32 := (mulf) v29 vnorm
  have v31 : Vec F S32x196 .f32 := ((extractStridedSlice S32x196 ![0, 1] · slices_S32x197_S32x196_0_1)) v30
  have cst_4 : Vec F S_ .f32 := (constant S_ .f32 0x00000000#32)
  have v32 : Vec F S32 .f32 := ((fun x v => Host.reduceAdd x v reducesTo_S32x196_S32_d1 h_S_)) v31 cst_4
  have v33 : Vec F S32x1 .f32 := (broadcastInDim S32x1 ![0] bcast_S32_S32x1_0) v32
  have v34 : Vec F S32x196 .f32 := (broadcastInDim S32x196 ![0, 1] bcast_S32x1_S32x196_0_1) v33
  have v35 : Vec F S32x196 .f32 := (Host.divf) v31 v34
  v35

/-- The stable order of the scores. -/
def order (s : Vec F S32x196 .f32) : Vec F S32x196 .i32 :=
  have call1_v0 : Vec F S32x196 .i32 := (iotaInDim S32x196 32 1)
  have v36 : Vec F S32x196 .i32 := (fun x y => (Host.sort2 S32x196 1 comparator_f32_i32_d1 x y).2) s call1_v0
  v36

/-- The scores taken along the order. -/
def sorted (s : Vec F S32x196 .f32) (i : Vec F S32x196 .i32) : Vec F S32x196 .f32 :=
  have call2_c : Vec F S_ .i32 := (constantI S_ 32 0#32)
  have call2_v0 : Vec F S32x196 .i32 := (broadcastInDim S32x196 ![] bcast_S_S32x196) call2_c
  have call2_v1 : Vec F S32x196 .i1 := (cmpi .slt) i call2_v0
  have call2_c_0 : Vec F S_ .i32 := (constantI S_ 32 196#32)
  have call2_v2 : Vec F S32x196 .i32 := (broadcastInDim S32x196 ![] bcast_S_S32x196) call2_c_0
  have call2_v3 : Vec F S32x196 .i32 := addi i call2_v2
  have call2_v4 : Vec F S32x196 .i32 := select call2_v1 call2_v3 i
  have call2_v5 : Vec F S32x196x1 .i32 := shapeCast S32x196x1 call2_v4 shapeCasts_S32x196_S32x196x1
  have call2_c_1 : Vec F S1 .i32 := (constantI S1 32 195#32)
  have call2_c_2 : Vec F S_ .i32 := (constantI S_ 32 0#32)
  have call2_v6 : Vec F S32x196x1 .i32 := (broadcastInDim S32x196x1 ![] bcast_S_S32x196x1) call2_c_2
  have call2_v7 : Vec F S32x196x1 .i1 := (cmpi .sge) call2_v5 call2_v6
  have call2_v8 : Vec F S1x1x1 .i32 := (broadcastInDim S1x1x1 ![2] bcast_S1_S1x1x1_2) call2_c_1
  have call2_v9 : Vec F S32x196x1 .i32 := (broadcastInDim S32x196x1 ![0, 1, 2] bcast_S1x1x1_S32x196x1_0_1_2) call2_v8
  have call2_v10 : Vec F S32x196x1 .i1 := (cmpi .sle) call2_v5 call2_v9
  have call2_v11 : Vec F S32x196x1 .i1 := andi call2_v7 call2_v10
  have call2_c_3 : Vec F S_ .i1 := (constantI S_ 1 1#1)
  have call2_v12 : Vec F S32x196 .i1 := (fun x v => Host.reduce IntOp.andi x v reducesTo_S32x196x1_S32x196_d2 h_S_) call2_v11 call2_c_3
  have call2_v13 : Vec F S32x196 .f32 := (fun x i => Host.gather gather_S32x196_S32x196x1_S32x196_n_1_0_0_1_2_11 x i) s call2_v5
  have call2_cst : Vec F S_ .f32 := (constant S_ .f32 0x7FC00000#32)
  have call2_v14 : Vec F S32x196 .f32 := (broadcastInDim S32x196 ![] bcast_S_S32x196) call2_cst
  have v37 : Vec F S32x196 .f32 := select call2_v12 call2_v13 call2_v14
  v37

/-- The running sums rescaled. -/
def cdf (s : Vec F S32x196 .f32) : Vec F S32x196 .f32 :=
  have call3_call0_cst : Vec F S_ .f32 := (constant S_ .f32 0x00000000#32)
  have call3_call0_v0 : Vec F S_ .f32 := (broadcastInDim S_ ![] bcast_S_S_) call3_call0_cst
  have v38 : Vec F S32x196 .f32 := (fun x v => Host.reduceWindowAdd ![1, 196] ![1, 1] ![0, 195] ![0, 0] x v reduceWindows_S32x196_S32x196_w1s1p0_0_w196s1p195_0 h_S_) s call3_call0_v0
  have cst_5 : Vec F S_ .f32 := (constant S_ .f32 0x7F800000#32)
  have v39 : Vec F S32 .f32 := ((fun x v => Host.reduce FloatOps.minimumf x v reducesTo_S32x196_S32_d1 h_S_)) v38 cst_5
  have v40 : Vec F S32x1 .f32 := (broadcastInDim S32x1 ![0] bcast_S32_S32x1_0) v39
  have cst_6 : Vec F S_ .f32 := (constant S_ .f32 0xFF800000#32)
  have v41 : Vec F S32 .f32 := ((fun x v => Host.reduce FloatOps.maximumf x v reducesTo_S32x196_S32_d1 h_S_)) v38 cst_6
  have v42 : Vec F S32x1 .f32 := (broadcastInDim S32x1 ![0] bcast_S32_S32x1_0) v41
  have v43 : Vec F S32x196 .f32 := (broadcastInDim S32x196 ![0, 1] bcast_S32x1_S32x196_0_1) v40
  have v44 : Vec F S32x196 .f32 := (subf) v38 v43
  have v45 : Vec F S32x1 .f32 := (subf) v42 v40
  have v46 : Vec F S32x196 .f32 := (broadcastInDim S32x196 ![0, 1] bcast_S32x1_S32x196_0_1) v45
  have v47 : Vec F S32x196 .f32 := (Host.divf) v44 v46
  v47

/-- The first nearest running sum of each sampling point. -/
def pick (cdf : Vec F S32x196 .f32) (ys : Vec F S1x196 .f32) : Vec F S32x196 .i32 :=
  have v48 : Vec F S32x1x196 .f32 := (broadcastInDim S32x1x196 ![0, 2] bcast_S32x196_S32x1x196_0_2) cdf
  have v49 : Vec F S196 .f32 := shapeCast S196 ys shapeCasts_S1x196_S196
  have v50 : Vec F S1x196x1 .f32 := (broadcastInDim S1x196x1 ![1] bcast_S196_S1x196x1_1) v49
  have v51 : Vec F S32x196x196 .f32 := (broadcastInDim S32x196x196 ![0, 1, 2] bcast_S1x196x1_S32x196x196_0_1_2) v50
  have v52 : Vec F S32x196x196 .f32 := (broadcastInDim S32x196x196 ![0, 1, 2] bcast_S32x1x196_S32x196x196_0_1_2) v48
  have v53 : Vec F S32x196x196 .f32 := (subf) v51 v52
  have v54 : Vec F S32x196x196 .f32 := (Host.absf) v53
  have call4_v0 : Vec F S32x196x196 .i32 := (iotaInDim S32x196x196 32 2)
  have call4_cst : Vec F S_ .f32 := (constant S_ .f32 0x7F800000#32)
  have call4_c : Vec F S_ .i32 := (constantI S_ 32 0#32)
  have v55 : Vec F S32x196 .i32 := (fun x y u v j => (Host.argReduce reducer_argmin_f32_i32 x y u v reducesTo_S32x196x196_S32x196_d2 h_S_ j).2) v54 call4_v0 call4_cst call4_c
  v55

/-- The tokens without the class token. -/
def body (raw : Vec F S32x197x384 .f32) : Vec F S32x196x384 .f32 :=
  have v56 : Vec F S32x196x384 .f32 := ((extractStridedSlice S32x196x384 ![0, 1, 0] · slices_S32x197x384_S32x196x384_0_1_0)) raw
  v56

/-- The tokens taken along an index. -/
def takeRows (t : Vec F S32x196x384 .f32) (i : Vec F S32x196 .i32) : Vec F S32x196x384 .f32 :=
  have v57 : Vec F S32x196x1 .i32 := (broadcastInDim S32x196x1 ![0, 1] bcast_S32x196_S32x196x1_0_1) i
  have call5_c : Vec F S_ .i32 := (constantI S_ 32 0#32)
  have call5_v0 : Vec F S32x196x1 .i32 := (broadcastInDim S32x196x1 ![] bcast_S_S32x196x1) call5_c
  have call5_v1 : Vec F S32x196x1 .i1 := (cmpi .slt) v57 call5_v0
  have call5_c_0 : Vec F S_ .i32 := (constantI S_ 32 196#32)
  have call5_v2 : Vec F S32x196x1 .i32 := (broadcastInDim S32x196x1 ![] bcast_S_S32x196x1) call5_c_0
  have call5_v3 : Vec F S32x196x1 .i32 := addi v57 call5_v2
  have call5_v4 : Vec F S32x196x1 .i32 := select call5_v1 call5_v3 v57
  have call5_c_1 : Vec F S1 .i32 := (constantI S1 32 195#32)
  have call5_c_2 : Vec F S_ .i32 := (constantI S_ 32 0#32)
  have call5_v5 : Vec F S32x196x1 .i32 := (broadcastInDim S32x196x1 ![] bcast_S_S32x196x1) call5_c_2
  have call5_v6 : Vec F S32x196x1 .i1 := (cmpi .sge) call5_v4 call5_v5
  have call5_v7 : Vec F S1x1x1 .i32 := (broadcastInDim S1x1x1 ![2] bcast_S1_S1x1x1_2) call5_c_1
  have call5_v8 : Vec F S32x196x1 .i32 := (broadcastInDim S32x196x1 ![0, 1, 2] bcast_S1x1x1_S32x196x1_0_1_2) call5_v7
  have call5_v9 : Vec F S32x196x1 .i1 := (cmpi .sle) call5_v4 call5_v8
  have call5_v10 : Vec F S32x196x1 .i1 := andi call5_v6 call5_v9
  have call5_c_3 : Vec F S_ .i1 := (constantI S_ 1 1#1)
  have call5_v11 : Vec F S32x196 .i1 := (fun x v => Host.reduce IntOp.andi x v reducesTo_S32x196x1_S32x196_d2 h_S_) call5_v10 call5_c_3
  have call5_v12 : Vec F S32x196x384 .f32 := (fun x i => Host.gather gather_S32x196x384_S32x196x1_S32x196x384_2_1_0_0_1_2_11384 x i) t call5_v4
  have call5_v13 : Vec F S32x196x384 .i1 := (broadcastInDim S32x196x384 ![0, 1] bcast_S32x196_S32x196x384_0_1) call5_v11
  have call5_cst : Vec F S_ .f32 := (constant S_ .f32 0x7FC00000#32)
  have call5_v14 : Vec F S32x196x384 .f32 := (broadcastInDim S32x196x384 ![] bcast_S_S32x196x384) call5_cst
  have v58 : Vec F S32x196x384 .f32 := select call5_v13 call5_v12 call5_v14
  v58

/-- The class token put in front. -/
def join (raw : Vec F S32x197x384 .f32) (t : Vec F S32x196x384 .f32) : Vec F S32x197x384 .f32 :=
  have v61 : Vec F S32x1x384 .f32 := ((extractStridedSlice S32x1x384 ![0, 0, 0] · slices_S32x197x384_S32x1x384_0_0_0)) raw
  have v62 : Vec F S32x197x384 .f32 := ((fun a b => concatenate S32x197x384 1 [⟨S32x1x384, a⟩, ⟨S32x196x384, b⟩] concatenates_S32x1x384_S32x196x384_S32x197x384_d1)) v61 t
  v62

theorem attn_eq (V : Valuation τ sig (Elt F)) :
    StableHlo.after attnOps V (Proc.devRef .tc main_v23) = attn (V (Proc.devRef .tc main_arg0)) (V (Proc.devRef .tc main_arg3)) := by
  after_results_simp
  rfl

theorem vals_eq (V : Valuation τ sig (Elt F)) :
    StableHlo.after attnOps V (Proc.devRef .tc main_v25) = vals (V (Proc.devRef .tc main_arg0)) (V (Proc.devRef .tc main_arg3)) := by
  after_results_simp
  rfl

theorem vnorm_eq (V : Valuation τ sig (Elt F)) :
    StableHlo.after normOps V (Proc.devRef .tc main_v26) = vnorm (V (Proc.devRef .tc main_v25)) := by
  after_results_simp
  rfl

theorem score_eq (V : Valuation τ sig (Elt F)) :
    StableHlo.after scoreOps V (Proc.devRef .tc main_v35) = score (V (Proc.devRef .tc main_v23)) (V (Proc.devRef .tc main_v26)) := by
  after_results_simp
  rfl

theorem order_eq (V : Valuation τ sig (Elt F)) :
    StableHlo.after orderOps V (Proc.devRef .tc main_v36) = order (V (Proc.devRef .tc main_v35)) := by
  after_results_simp
  rfl

theorem sorted_eq (V : Valuation τ sig (Elt F)) :
    StableHlo.after sortedOps V (Proc.devRef .tc main_v37) = sorted (V (Proc.devRef .tc main_v35)) (V (Proc.devRef .tc main_v36)) := by
  after_results_simp
  rfl

theorem cdf_eq (V : Valuation τ sig (Elt F)) :
    StableHlo.after cdfOps V (Proc.devRef .tc main_v47) = cdf (V (Proc.devRef .tc main_v37)) := by
  after_results_simp
  rfl

theorem pick_eq (V : Valuation τ sig (Elt F)) :
    StableHlo.after pickOps V (Proc.devRef .tc main_v55) = pick (V (Proc.devRef .tc main_v47)) (V (Proc.devRef .tc main_arg4)) := by
  after_results_simp
  rfl

theorem body_eq (V : Valuation τ sig (Elt F)) :
    StableHlo.after sliceOps V (Proc.devRef .tc main_v56) = body (V (Proc.devRef .tc main_arg1)) := by
  after_results_simp
  rfl

theorem takeRows_eq (V : Valuation τ sig (Elt F)) :
    StableHlo.after gatherOps V (Proc.devRef .tc main_v58) = takeRows (V (Proc.devRef .tc main_v56)) (V (Proc.devRef .tc main_v36)) := by
  after_results_simp
  rfl

theorem takeRows_eq2 (V : Valuation τ sig (Elt F)) :
    StableHlo.after gatherOps2 V (Proc.devRef .tc main_v60) = takeRows (V (Proc.devRef .tc main_v58)) (V (Proc.devRef .tc main_v55)) := by
  after_results_simp
  rfl

theorem join_eq (V : Valuation τ sig (Elt F)) :
    StableHlo.after outOps V (Proc.devRef .tc main_v62) = join (V (Proc.devRef .tc main_arg1)) (V (Proc.devRef .tc main_v60)) := by
  after_results_simp
  rfl

end Cert.ReferenceIdeal.Ref

end
-- ==== Proof.Reference.OrderValue.lean ====
/- The reference's stable order of a row of scores: the position of each rank. -/
module

public import proofs.«01_k».proof.Proof.Reference.Stages
public import proofs.«01_k».proof.Proof.Math.Bits

@[expose] public section

set_option maxRecDepth 16384

noncomputable section

namespace Cert.ReferenceIdeal.Ref

open Cert.ReferenceIdeal Cert.ReferenceIdeal.Gen Idealize.ShloMosaic Cert.Select

/-- Two scores are compared as they are: a zero is a zero whatever its sign, and no value is unordered. -/
theorem comparator_eq (a b : EReal) (i j : BitVec 32) :
    (comparator_f32_i32_d1 (F := Ideal) (a, i) (b, j) == 1#1) = decide (a < b) := by
  have h : ∀ z w x : EReal, Scalar.select (FloatOps.cmpf (F := Ideal) (φ := .f32) .une x x) w
      (Scalar.select (FloatOps.cmpf (F := Ideal) (φ := .f32) .oeq x z) z x) = x := by
    intro z w x
    simp only [Ideal.cmpf_def, Ideal.cmp, select_ofBool, ne_eq, not_true_eq_false, if_false]
    split_ifs with h
    · exact h.symm
    · rfl
  unfold comparator_f32_i32_d1
  show (FloatOps.cmpfTotal (F := Ideal) (φ := .f32) .lt (Scalar.select _ _ (Scalar.select _ _ a)) (Scalar.select _ _ (Scalar.select _ _ b)) == 1#1) = _
  rw [h, h, Ideal.cmpfTotal_def]
  by_cases hab : a < b <;> simp [Ideal.cmp, CmpDirection.ordered, hab]

/-- A sort of two arrays along their rows moves the second by the permutation that sorts the row. -/
theorem sort2_at (f : EReal × BitVec 32 → EReal × BitVec 32 → BitVec 1) (s : S32x196.Idx → EReal) (y : S32x196.Idx → BitVec 32)
    (b : Fin 32) (r : Fin 196) :
    (Host.sort2 S32x196 1 f s y).2 (ix2 b r)
      = y (ix2 b (sortedFrom (fun k k' => f (s (ix2 b k), y (ix2 b k)) (s (ix2 b k'), y (ix2 b k')) == 1#1) r)) := by
  have e : ∀ k : Fin 196, ((ix2 b r : S32x196.Idx).along 1 k) = ix2 b k := by
    intro k
    funext a
    refine Fin.cases rfl (fun a => Fin.cases rfl (fun a => a.elim0) a) a
  obtain ⟨A, hA, h⟩ : ∃ A : Fin 196 → S32x196.Idx, A = (fun k => ix2 b k) ∧ (Host.sort2 S32x196 1 f s y).2 (ix2 b r)
      = y (A (sortedFrom (fun k k' => f (s (A k), y (A k)) (s (A k'), y (A k')) == 1#1) r)) := by
    refine ⟨fun k => (ix2 b r : S32x196.Idx).along 1 k, funext e, ?_⟩
    unfold Host.sort2
    rw [dif_pos (by decide)]
    rfl
  rw [h, hA]

/-- The order of row `b` at rank `r` is the position of that rank. -/
theorem order_at (s : Vec Ideal S32x196 .f32) (b : Fin 32) (r : Fin 196) :
    order (F := Ideal) s (ix2 b r) = BitVec.ofNat 32 (Cert.Select.order (fun k => s (ix2 b k)) r).val := by
  refine (sort2_at (comparator_f32_i32_d1 (F := Ideal)) s (iotaInDim S32x196 32 1) b r).trans ?_
  simp only [comparator_eq]
  rw [sortedFrom_eq_order]
  rfl

end Cert.ReferenceIdeal.Ref

end
-- ==== Proof.Reference.GatherValue.lean ====
/- The reference's reads along an index that is in range. -/
module

public import proofs.«01_k».proof.Proof.Reference.Stages
public import proofs.«01_k».proof.Proof.Math.Bits

@[expose] public section

set_option maxRecDepth 16384

noncomputable section

namespace Cert.ReferenceIdeal.Ref

open Cert.ReferenceIdeal Cert.ReferenceIdeal.Gen Idealize.ShloMosaic Cert.Select

theorem gather_scores (x : Vec Ideal S32x196 .f32) (i : Vec Ideal S32x196x1 .i32) (b : Fin 32) (r : Fin 196) :
    Host.gather gather_S32x196_S32x196x1_S32x196_n_1_0_0_1_2_11 x i (ix2 b r)
      = x (ix2 b ⟨min (i (ix3 b r 0)).toInt.toNat 195, by omega⟩) := by
  unfold Host.gather
  congr 1
  funext a
  refine Fin.cases ?_ (fun a => Fin.cases ?_ (fun a => a.elim0) a) a
  · apply Fin.ext
    show 0 + b.val + 0 = b.val
    omega
  · apply Fin.ext
    show min (i _).toInt.toNat 195 + 0 + 0 = min (i (ix3 b r 0)).toInt.toNat 195
    refine congrArg (fun z : S32x196x1.Idx => min (i z).toInt.toNat 195) ?_
    funext a
    refine Fin.cases rfl (fun a => Fin.cases rfl (fun a => Fin.cases rfl (fun a => a.elim0) a) a) a

theorem gather_rows (x : Vec Ideal S32x196x384 .f32) (i : Vec Ideal S32x196x1 .i32) (b : Fin 32) (r : Fin 196) (d : Fin 384) :
    Host.gather gather_S32x196x384_S32x196x1_S32x196x384_2_1_0_0_1_2_11384 x i (ix3 b r d)
      = x (ix3 b ⟨min (i (ix3 b r 0)).toInt.toNat 195, by omega⟩ d) := by
  unfold Host.gather
  congr 1
  funext a
  refine Fin.cases ?_ (fun a => Fin.cases ?_ (fun a => Fin.cases ?_ (fun a => a.elim0) a) a) a
  · apply Fin.ext
    show 0 + b.val + 0 = b.val
    omega
  · apply Fin.ext
    show min (i _).toInt.toNat 195 + 0 + 0 = min (i (ix3 b r 0)).toInt.toNat 195
    refine congrArg (fun z : S32x196x1.Idx => min (i z).toInt.toNat 195) ?_
    funext a
    refine Fin.cases rfl (fun a => Fin.cases rfl (fun a => Fin.cases rfl (fun a => a.elim0) a) a) a
  · apply Fin.ext
    show 0 + 0 + d.val = d.val
    omega

/-! An index below 196 is not negative, and in range. -/

theorem not_neg : ∀ k : Fin 196, IntOp.cmpi .slt (BitVec.ofNat 32 k.val) 0#32 = 0#1 := by decide +kernel
theorem ge_zero : ∀ k : Fin 196, IntOp.cmpi .sge (BitVec.ofNat 32 k.val) 0#32 = 1#1 := by decide +kernel
theorem le_last : ∀ k : Fin 196, IntOp.cmpi .sle (BitVec.ofNat 32 k.val) 195#32 = 1#1 := by decide +kernel
theorem select_zero {α : Type} (a b : α) : Scalar.select 0#1 a b = b := rfl
theorem select_one {α : Type} (a b : α) : Scalar.select 1#1 a b = a := rfl
theorem clamp_eq (k : Fin 196) : min (BitVec.ofNat 32 k.val).toInt.toNat 195 = k.val := by
  rw [toInt_ofNat _ (by omega), Int.toNat_natCast]
  omega
theorem fold_one : (Finset.univ : Finset (Fin 1)).fold IntOp.andi 1#1 (fun _ => IntOp.andi 1#1 1#1) = 1#1 := by decide

/-- The scores along an index in range. -/
theorem sorted_at (s : Vec Ideal S32x196 .f32) (i : Vec Ideal S32x196 .i32) (b : Fin 32) (r k : Fin 196)
    (h : i (ix2 b r) = BitVec.ofNat 32 k.val) : sorted (F := Ideal) s i (ix2 b r) = s (ix2 b k) := by
  pointwise [sorted]
  rw [gather_scores, h, not_neg, select_zero, ge_zero, le_last, fold_one, select_one]
  refine congrArg (fun z : Fin 196 => s (ix2 b z)) (Fin.ext ?_)
  refine Eq.trans (congrArg (fun z : BitVec 32 => min z.toInt.toNat 195) ?_) (clamp_eq k)
  pointwise []
  rw [h, not_neg, select_zero]

/-- The tokens along an index in range. -/
theorem takeRows_at (s : Vec Ideal S32x196x384 .f32) (i : Vec Ideal S32x196 .i32) (b : Fin 32) (r k : Fin 196) (d : Fin 384)
    (h : i (ix2 b r) = BitVec.ofNat 32 k.val) : takeRows (F := Ideal) s i (ix3 b r d) = s (ix3 b k d) := by
  pointwise [takeRows]
  rw [gather_rows, h, not_neg, select_zero, ge_zero, le_last, fold_one, select_one]
  refine congrArg (fun z : Fin 196 => s (ix3 b z d)) (Fin.ext ?_)
  refine Eq.trans (congrArg (fun z : BitVec 32 => min z.toInt.toNat 195) ?_) (clamp_eq k)
  pointwise []
  rw [h, not_neg, select_zero]

end Cert.ReferenceIdeal.Ref

end
-- ==== Proof.Reference.CdfValue.lean ====
/- The reference's rescaled running sums. -/
module

public import proofs.«01_k».proof.Proof.Reference.Stages
public import proofs.«01_k».proof.Proof.Math.Bits

@[expose] public section

set_option maxRecDepth 16384

noncomputable section

namespace Cert.ReferenceIdeal.Ref

open Cert.ReferenceIdeal Cert.ReferenceIdeal.Gen Idealize.ShloMosaic Cert.Select

/-- A left fold of sums is a sum. -/
theorem foldl_add {n : ℕ} (g : Fin n → EReal) (v : EReal) : (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- Position `q` of the window that ends at `r` holds element `r + q - 195`, or padding. -/
theorem window_sum (f : Fin 196 → EReal) (r : Fin 196) :
    (∑ q : Fin 196, if 195 ≤ r.val + q.val then f ⟨r.val + q.val - 195, by omega⟩ else 0) = cum f r := by
  unfold cum
  rw [← Finset.sum_filter]
  refine Finset.sum_nbij (fun q => ⟨r.val + q.val - 195, by omega⟩) (fun q hq => ?_) (fun q hq q' hq' e => ?_) (fun k hk => ?_) (fun q hq => rfl)
  · exact Finset.mem_filter.mpr ⟨Finset.mem_univ _, by show r.val + q.val - 195 ≤ r.val; omega⟩
  · have h := (Finset.mem_filter.mp (Finset.mem_coe.mp hq)).2
    have h' := (Finset.mem_filter.mp (Finset.mem_coe.mp hq')).2
    have := congrArg Fin.val e
    simp only at this
    exact Fin.ext (by omega)
  · have h : k.val ≤ r.val := (Finset.mem_filter.mp (Finset.mem_coe.mp hk)).2
    refine ⟨⟨195 - r.val + k.val, by omega⟩, Finset.mem_coe.mpr (Finset.mem_filter.mpr ⟨Finset.mem_univ _, ?_⟩), Fin.ext ?_⟩
    · show 195 ≤ r.val + (195 - r.val + k.val)
      omega
    · show r.val + (195 - r.val + k.val) - 195 = k.val
      omega

/-- The windowed sum of a row is its running sum. -/
theorem reduceWindow_at (x : S32x196.Idx → EReal) (init : S_.Idx → EReal) (hi : init (Shape.Idx.first h_S_) = 0) (b : Fin 32) (r : Fin 196) :
    Host.reduceWindow (· + ·) ![1, 196] ![1, 1] ![0, 195] ![0, 0] x init reduceWindows_S32x196_S32x196_w1s1p0_0_w196s1p195_0 h_S_ (ix2 b r)
      = cum (fun k => x (ix2 b k)) r := by
  unfold Host.reduceWindow
  dsimp only
  rw [hi, foldl_add, zero_add, ← window_sum]
  refine ((Shape.rowMajor (⟨2, ![1, 196]⟩ : Shape)).sum_comp _).symm.trans ((sum_idx2 _).trans ?_)
  rw [Fin.sum_univ_one]
  refine Finset.sum_congr rfl fun q _ => ?_
  simp only [Equiv.symm_apply_apply]
  by_cases h : 195 ≤ r.val + q.val
  · rw [if_pos h, dif_pos]
    · refine congrArg x (funext fun a => ?_)
      refine Fin.cases ?_ (fun a => Fin.cases ?_ (fun a => a.elim0) a) a
      · apply Fin.ext
        show b.val * 1 + 0 - 0 = b.val
        omega
      · apply Fin.ext
        show r.val * 1 + q.val - 195 = r.val + q.val - 195
        omega
    · refine fun a => Fin.cases ?_ (fun a => Fin.cases ?_ (fun a => a.elim0) a) a
      · show 0 ≤ b.val * 1 + 0 ∧ b.val * 1 + 0 - 0 < 32
        omega
      · show 195 ≤ r.val * 1 + q.val ∧ r.val * 1 + q.val - 195 < 196
        omega
  · rw [if_neg h, dif_neg]
    intro hin
    have : 195 ≤ r.val * 1 + q.val := (hin 1).1
    omega

theorem cdf_at (s : Vec Ideal S32x196 .f32) (b : Fin 32) (r : Fin 196) :
    cdf (F := Ideal) s (ix2 b r) = rescale (cum fun k => s (ix2 b k)) r := by
  have h : ∀ r : Fin 196, Host.reduceWindowAdd (F := Ideal) (φ := .f32) ![1, 196] ![1, 1] ![0, 195] ![0, 0] s
      (broadcastInDim S_ ![] bcast_S_S_ (constant S_ FTy.f32 0#32)) reduceWindows_S32x196_S32x196_w1s1p0_0_w196s1p195_0 h_S_ (ix2 b r)
      = cum (fun k => s (ix2 b k)) r := fun r =>
    reduceWindow_at s (fun _ => Ideal.ofBits .f32 0#32) (by simp) b r
  pointwise [cdf]
  simp only [h, ofBits_top, ofBits_bot]
  rfl

end Cert.ReferenceIdeal.Ref

end
-- ==== Proof.Reference.PickValue.lean ====
/- The reference's nearest running sum: the first of the nearest. -/
module

public import proofs.«01_k».proof.Proof.Reference.Stages
public import proofs.«01_k».proof.Proof.Math.Bits

@[expose] public section

set_option maxRecDepth 16384

noncomputable section

namespace Cert.ReferenceIdeal.Ref

open Cert.ReferenceIdeal Cert.ReferenceIdeal.Gen Idealize.ShloMosaic Cert.Select

open Classical in
/-- The smaller value, the earlier position where two are equal. -/
theorem reducer_eq (a b : EReal) (i j : Fin 196) :
    reducer_argmin_f32_i32 (F := Ideal) (a, BitVec.ofNat 32 i.val) (b, BitVec.ofNat 32 j.val)
      = if a < b ∨ (a = b ∧ i < j) then (a, BitVec.ofNat 32 i.val) else (b, BitVec.ofNat 32 j.val) := by
  have hr : ∀ x : Fin 196, x.val < 1000 := fun x => lt_trans x.isLt (by norm_num)
  have e : reducer_argmin_f32_i32 (F := Ideal) (a, BitVec.ofNat 32 i.val) (b, BitVec.ofNat 32 j.val)
      = (Scalar.select (IntOp.ori (BitVec.ofBool (decide (a < b))) (BitVec.ofBool (decide (a ≠ a)))) a b,
        Scalar.select (IntOp.ori (IntOp.ori (BitVec.ofBool (decide (a < b))) (BitVec.ofBool (decide (a ≠ a))))
          (IntOp.andi (BitVec.ofBool (decide (a = b))) (IntOp.cmpi .slt (BitVec.ofNat 32 i.val) (BitVec.ofNat 32 j.val))))
          (BitVec.ofNat 32 i.val) (BitVec.ofNat 32 j.val)) := rfl
  rw [e]
  simp only [cmpi_slt_ofNat _ _ (hr _) (hr _), ori_ofBool, andi_ofBool, select_ofBool, ne_eq, not_true_eq_false, or_false]
  by_cases h1 : a < b
  · simp [h1]
  · by_cases h2 : a = b
    · subst h2
      by_cases h3 : i < j <;> simp [h3, Fin.lt_def.symm]
    · simp [h1, h2]

/-- Folded over a list of (value, position) pairs, it leaves a pair of the list, or the starting pair, that no other is less than. -/
theorem fold_reducer {ι : Type} (val : ι → EReal) (pos : ι → Fin 196) (l : List ι) (a : EReal) (i : Fin 196) :
    ∃ (e : EReal) (k : Fin 196),
      l.foldl (fun p n => reducer_argmin_f32_i32 (F := Ideal) p (val n, BitVec.ofNat 32 (pos n).val)) (a, BitVec.ofNat 32 i.val)
          = (e, BitVec.ofNat 32 k.val)
      ∧ ((e = a ∧ k = i) ∨ ∃ n ∈ l, e = val n ∧ k = pos n)
      ∧ (e < a ∨ (e = a ∧ k ≤ i)) ∧ ∀ n ∈ l, e < val n ∨ (e = val n ∧ k ≤ pos n) := by
  classical
  induction l generalizing a i with
  | nil => exact ⟨a, i, rfl, Or.inl ⟨rfl, rfl⟩, Or.inr ⟨rfl, le_rfl⟩, fun n h => absurd h List.not_mem_nil⟩
  | cons m l ih =>
    rw [List.foldl_cons, reducer_eq]
    by_cases h : a < val m ∨ (a = val m ∧ i < pos m)
    · rw [if_pos h]
      obtain ⟨e, k, h1, h2, h3, h4⟩ := ih a i
      refine ⟨e, k, h1, h2.imp id fun ⟨n, hn, hh⟩ => ⟨n, List.mem_cons_of_mem _ hn, hh⟩, h3, fun n hn => ?_⟩
      rcases List.mem_cons.mp hn with rfl | hn
      · rcases h3 with h3 | ⟨h3, h3'⟩ <;> rcases h with h | ⟨h, h'⟩
        · exact Or.inl (h3.trans h)
        · exact Or.inl (h ▸ h3)
        · exact Or.inl (h3 ▸ h)
        · exact Or.inr ⟨h3.trans h, h3'.trans h'.le⟩
      · exact h4 n hn
    · rw [if_neg h]
      have h' : val m < a ∨ (val m = a ∧ pos m ≤ i) := by
        rcases lt_trichotomy a (val m) with g | g | g
        · exact absurd (Or.inl g) h
        · exact Or.inr ⟨g.symm, not_lt.mp fun g' => h (Or.inr ⟨g, g'⟩)⟩
        · exact Or.inl g
      obtain ⟨e, k, h1, h2, h3, h4⟩ := ih (val m) (pos m)
      refine ⟨e, k, h1, Or.inr ?_, ?_, fun n hn => ?_⟩
      · rcases h2 with h2 | ⟨n, hn, hh⟩
        · exact ⟨m, List.mem_cons_self, h2⟩
        · exact ⟨n, List.mem_cons_of_mem _ hn, hh⟩
      · rcases h3 with h3 | ⟨h3, h3'⟩ <;> rcases h' with h | ⟨h, h'⟩
        · exact Or.inl (h3.trans h)
        · exact Or.inl (h ▸ h3)
        · exact Or.inl (h3 ▸ h)
        · exact Or.inr ⟨h3.trans h, h3'.trans h'⟩
      · rcases List.mem_cons.mp hn with rfl | hn
        · exact h3
        · exact h4 n hn

/-- The arg-min of the last axis is the first smallest position. -/
theorem argReduce_at (x : Vec Ideal S32x196x196 .f32) (b : Fin 32) (t : Fin 196) :
    (Host.argReduce (reducer_argmin_f32_i32 (F := Ideal)) x (iotaInDim S32x196x196 32 2) (constant (F := Ideal) S_ .f32 0x7F800000#32) (constantI S_ 32 0#32)
      reducesTo_S32x196x196_S32x196_d2 h_S_ (ix2 b t)).2 = BitVec.ofNat 32 (first fun k => x (ix3 b t k)).val := by
  rw [Ideal.argReduce_eq_reduce2]
  unfold Host.reduce2
  obtain ⟨e, k, h1, h2, h3, h4⟩ := fold_reducer (fun n => x ((Shape.rowMajor S32x196x196).symm n)) (fun n => (Shape.rowMajor S32x196x196).symm n 2)
    ((List.finRange S32x196x196.numel).filter fun n => reducesTo_S32x196x196_S32x196_d2.drop ((Shape.rowMajor S32x196x196).symm n) = ix2 b t) ⊤ 0
  have h5 : (constant (F := Ideal) S_ .f32 0x7F800000#32 (Shape.Idx.first h_S_), constantI S_ 32 0#32 (Shape.Idx.first h_S_)) = ((⊤ : EReal), BitVec.ofNat 32 (0 : Fin 196).val) :=
    Prod.ext ofBits_top rfl
  dsimp only
  rw [h5]
  refine (congrArg Prod.snd h1).trans ?_
  refine congrArg (fun z : Fin 196 => BitVec.ofNat 32 z.val) (first_eq ?_).symm
  have hm : ∀ q : Fin 196, Shape.rowMajor S32x196x196 (ix3 b t q) ∈ (List.finRange S32x196x196.numel).filter fun n => reducesTo_S32x196x196_S32x196_d2.drop ((Shape.rowMajor S32x196x196).symm n) = ix2 b t := by
    intro q
    refine List.mem_filter.mpr ⟨List.mem_finRange _, decide_eq_true ?_⟩
    rw [Equiv.symm_apply_apply]
    funext a
    refine Fin.cases rfl (fun a => Fin.cases rfl (fun a => a.elim0) a) a
  have h6 : ∀ q : Fin 196, e < x (ix3 b t q) ∨ (e = x (ix3 b t q) ∧ k ≤ q) := by
    intro q
    have := h4 _ (hm q)
    simp only [Equiv.symm_apply_apply] at this
    exact this
  have h7 : e = x (ix3 b t k) := by
    rcases h2 with ⟨h, h'⟩ | ⟨n, hn, h, h'⟩
    · subst h h'
      rcases h6 0 with g | g
      · exact absurd g not_top_lt
      · exact g.1
    · have hd := of_decide_eq_true (List.mem_filter.mp hn).2
      have hix : (Shape.rowMajor S32x196x196).symm n = ix3 b t k := by
        subst h'
        funext a
        refine Fin.cases ?_ (fun a => Fin.cases ?_ (fun a => Fin.cases rfl (fun a => a.elim0) a) a) a
        · exact congrFun hd 0
        · exact congrFun hd 1
      rw [h, hix]
  intro q
  show x (ix3 b t k) ≤ x (ix3 b t q) ∧ (x (ix3 b t q) = x (ix3 b t k) → k ≤ q)
  rw [← h7]
  rcases h6 q with g | ⟨g, g'⟩
  · exact ⟨g.le, fun h => absurd h g.ne'⟩
  · exact ⟨g.le, fun _ => g'⟩

/-- The first of the nearest running sums. -/
theorem pick_at (c : Vec Ideal S32x196 .f32) (ys : Vec Ideal S1x196 .f32) (b : Fin 32) (t : Fin 196) :
    pick (F := Ideal) c ys (ix2 b t) = BitVec.ofNat 32 (first (gap (fun k => c (ix2 b k)) (ys (ix2 0 t)))).val := by
  refine (argReduce_at _ b t).trans ?_
  congr 3
  funext k
  pointwise []
  rfl

end Cert.ReferenceIdeal.Ref

end
-- ==== Proof.Reference.Result.lean ====
/- The reference's array of selected tokens after its run, from the scores it computes. -/
module

public import proofs.«01_k».proof.Proof.Reference.Stages
public import proofs.«01_k».proof.Proof.Math.Bits
public import proofs.«01_k».proof.Proof.Reference.OrderValue
public import proofs.«01_k».proof.Proof.Reference.GatherValue
public import proofs.«01_k».proof.Proof.Reference.CdfValue
public import proofs.«01_k».proof.Proof.Reference.PickValue

@[expose] public section

set_option maxRecDepth 16384

noncomputable section

namespace Cert.ReferenceIdeal.Ref

open Cert.ReferenceIdeal Cert.ReferenceIdeal.Gen Idealize.ShloMosaic Cert.Select

/-- The raw tokens without the class token. -/
theorem body_at (raw : Vec Ideal S32x197x384 .f32) (b : Fin 32) (k : Fin 196) (d : Fin 384) :
    body (F := Ideal) raw (ix3 b k d) = raw (ix3 b k.succ d) := by
  pointwise [body]
  exact congrArg (fun k => raw (ix3 b k d)) (Fin.ext (Nat.add_comm 1 k.val))

/-- Row 0 of the result is the raw class token. -/
theorem join_zero (raw : Vec Ideal S32x197x384 .f32) (t : Vec Ideal S32x196x384 .f32) (b : Fin 32) (d : Fin 384) :
    join (F := Ideal) raw t (ix3 b 0 d) = raw (ix3 b 0 d) := by
  pointwise [join]

/-- The rows after it are the picked tokens. -/
theorem join_succ (raw : Vec Ideal S32x197x384 .f32) (t : Vec Ideal S32x196x384 .f32) (b : Fin 32) (k : Fin 196) (d : Fin 384) :
    join (F := Ideal) raw t (ix3 b k.succ d) = t (ix3 b k d) := by
  pointwise [join]
  rw [dif_neg (by simp)]
  rfl

/-- The normalised scores from the tokens and the weights. -/
def scores (x : Vec Ideal S32x197x384 .f32) (w : Vec Ideal S1152x384 .f32) : Vec Ideal S32x196 .f32 :=
  score (F := Ideal) (attn x w) (vnorm (vals x w))

variable (m : (ℓ : Loc nD τ sig) → Buf (Elt Ideal) ℓ) (c : Dev nD)

/-- The tokens. -/
abbrev argX : Vec Ideal S32x197x384 .f32 := m ((c.tc : Thread nD τ).loc main_arg0)
/-- The raw tokens. -/
abbrev argRaw : Vec Ideal S32x197x384 .f32 := m ((c.tc : Thread nD τ).loc main_arg1)
/-- The projection weights. -/
abbrev argW : Vec Ideal S1152x384 .f32 := m ((c.tc : Thread nD τ).loc main_arg3)
/-- The sampling points. -/
abbrev argYs : Vec Ideal S1x196 .f32 := m ((c.tc : Thread nD τ).loc main_arg4)

/-- The scores in the run. -/
theorem score_val : U3 m c (Proc.devRef .tc main_v35) = scores (argX m c) (argW m c) := by
  unfold U3 scores
  rw [score_eq, U2_of m c main_v23 (by decide +kernel)]
  unfold U2
  rw [vnorm_eq]
  unfold U1
  rw [attn_eq, vals_eq]

/-- The sorted order in the run. -/
theorem order_val : U4 m c (Proc.devRef .tc main_v36) = order (scores (argX m c) (argW m c)) := by
  unfold U4
  rw [order_eq, score_val]

/-- The rescaled running sums in the run. -/
theorem cdf_val : U6 m c (Proc.devRef .tc main_v47) = cdf (sorted (scores (argX m c) (argW m c)) (order (scores (argX m c) (argW m c)))) := by
  unfold U6
  rw [cdf_eq]
  unfold U5
  rw [sorted_eq, order_val, U4_of m c main_v35 (by decide +kernel), score_val]

/-- The picked positions in the run. -/
theorem pick_val : U7 m c (Proc.devRef .tc main_v55)
    = pick (cdf (sorted (scores (argX m c) (argW m c)) (order (scores (argX m c) (argW m c))))) (argYs m c) := by
  unfold U7
  rw [pick_eq, cdf_val, U6_of m c main_arg4 (by decide +kernel), U5_of m c main_arg4 (by decide +kernel), U4_of m c main_arg4 (by decide +kernel),
    U3_of m c main_arg4 (by decide +kernel), U2_of m c main_arg4 (by decide +kernel), U1_of m c main_arg4 (by decide +kernel)]

/-- The raw tokens without the class token, in the run. -/
theorem body_val : U8 m c (Proc.devRef .tc main_v56) = body (argRaw m c) := by
  unfold U8
  rw [body_eq, U7_of m c main_arg1 (by decide +kernel), U6_of m c main_arg1 (by decide +kernel), U5_of m c main_arg1 (by decide +kernel), U4_of m c main_arg1 (by decide +kernel),
    U3_of m c main_arg1 (by decide +kernel), U2_of m c main_arg1 (by decide +kernel), U1_of m c main_arg1 (by decide +kernel)]

/-- The picked tokens in the run: taken in sorted order, then at the picked positions. -/
theorem tokens_val : U10 m c (Proc.devRef .tc main_v60)
    = takeRows (takeRows (body (argRaw m c)) (order (scores (argX m c) (argW m c))))
      (pick (cdf (sorted (scores (argX m c) (argW m c)) (order (scores (argX m c) (argW m c))))) (argYs m c)) := by
  unfold U10
  rw [takeRows_eq2, U9_of m c main_v55 (by decide +kernel), U8_of m c main_v55 (by decide +kernel), pick_val]
  unfold U9
  rw [takeRows_eq, body_val, U8_of m c main_v36 (by decide +kernel), U7_of m c main_v36 (by decide +kernel), U6_of m c main_v36 (by decide +kernel),
    U5_of m c main_v36 (by decide +kernel), order_val]

/-- The result in the run. -/
theorem join_val : U11 m c (Proc.devRef .tc main_v62)
    = join (argRaw m c) (takeRows (takeRows (body (argRaw m c)) (order (scores (argX m c) (argW m c))))
      (pick (cdf (sorted (scores (argX m c) (argW m c)) (order (scores (argX m c) (argW m c))))) (argYs m c))) := by
  unfold U11
  rw [join_eq, tokens_val, U10_of m c main_arg1 (by decide +kernel), U9_of m c main_arg1 (by decide +kernel), U8_of m c main_arg1 (by decide +kernel), U7_of m c main_arg1 (by decide +kernel), U6_of m c main_arg1 (by decide +kernel), U5_of m c main_arg1 (by decide +kernel), U4_of m c main_arg1 (by decide +kernel),
    U3_of m c main_arg1 (by decide +kernel), U2_of m c main_arg1 (by decide +kernel), U1_of m c main_arg1 (by decide +kernel)]

/-- The token at sampling point `t` is the one it picks. -/
theorem tokens_at (raw : Vec Ideal S32x197x384 .f32) (s : Vec Ideal S32x196 .f32) (ys : Vec Ideal S1x196 .f32) (b : Fin 32) (t : Fin 196) (d : Fin 384) :
    takeRows (takeRows (body raw) (order s)) (pick (cdf (sorted s (order s))) ys) (ix3 b t d)
      = raw (ix3 b (chosen (fun k => s (ix2 b k)) (ys (ix2 0 t))).succ d) := by
  have hc : (fun k => cdf (F := Ideal) (sorted s (order s)) (ix2 b k)) = Cert.Select.levels (fun k => s (ix2 b k)) := by
    funext k
    rw [cdf_at]
    unfold Cert.Select.levels
    refine congrArg (fun f => rescale (cum f) k) (funext fun r => ?_)
    exact sorted_at s _ b r _ (order_at s b r)
  rw [takeRows_at _ _ b t _ d (pick_at _ ys b t), takeRows_at _ _ b _ _ d (order_at s b _), body_at, hc]
  rfl

/-- Row 0 is the raw class token, row `t + 1` the raw token the sampling point `t` picks. -/
theorem result :
    U11 m c (Proc.devRef .tc main_v62) = fun i => argRaw m c
      (ix3 (i 0) (Fin.cases (motive := fun _ => Fin 197) 0
        (fun t => (chosen (fun k => scores (argX m c) (argW m c) (ix2 (i 0) k)) (argYs m c (ix2 0 t))).succ) (i 1)) (i 2)) := by
  rw [join_val]
  funext i
  obtain ⟨b, r, d, rfl⟩ : ∃ (b : Fin 32) (r : Fin 197) (d : Fin 384), i = ix3 b r d := by
    refine ⟨i 0, i 1, i 2, ?_⟩
    funext a
    refine Fin.cases rfl (fun a => Fin.cases rfl (fun a => Fin.cases rfl (fun a => a.elim0) a) a) a
  refine Fin.cases ?_ (fun t => ?_) r
  · exact join_zero _ _ b d
  · exact (join_succ _ _ b t d).trans (tokens_at _ _ _ b t d)

end Cert.ReferenceIdeal.Ref

end
-- ==== Proof.KernelIdeal.Scores.lean ====
/- The scores the kernel's host part computes are the reference's, laid out with a unit axis. -/
module

public import proofs.«01_k».proof.Proof.KernelIdeal.Result
public import proofs.«01_k».proof.Proof.Reference.Result

@[expose] public section

set_option maxRecDepth 16384

noncomputable section

namespace Cert.KernelIdeal.Val

open Cert.KernelIdeal Cert.KernelIdeal.Gen Cert.KernelIdeal.Run Idealize.ShloMosaic Idealize.ShloMosaic.TcCoe Cert.Select

section Stages

variable {F : FTy → Type} [FloatOps F]

/-- The attention weights are computed as in the reference. -/
theorem attn_eq (V : Valuation τ sig (Elt F)) :
    StableHlo.after hostOps0 V (Proc.devRef .tc main_v23)
      = Cert.ReferenceIdeal.Ref.attn (F := F) (V (Proc.devRef .tc main_arg0)) (V (Proc.devRef .tc main_arg3)) := by
  after_results_simp
  rfl

/-- The value vectors are computed as in the reference. -/
theorem vals_eq (V : Valuation τ sig (Elt F)) :
    StableHlo.after hostOps0 V (Proc.devRef .tc main_v25)
      = Cert.ReferenceIdeal.Ref.vals (F := F) (V (Proc.devRef .tc main_arg0)) (V (Proc.devRef .tc main_arg3)) := by
  after_results_simp
  rfl

/-- The norms of the value vectors are computed as in the reference. -/
theorem vnorm_eq (V : Valuation τ sig (Elt F)) :
    StableHlo.after hostOps0_1 V (Proc.devRef .tc main_v26) = Cert.ReferenceIdeal.Ref.vnorm (F := F) (V (Proc.devRef .tc main_v25)) := by
  after_results_simp
  rfl

/-- The normalised scores, the heads added one by one. -/
def headScore (v23 : Vec F S32x12x197x197 .f32) (v26 : Vec F S32x197 .f32) : Vec F S32x1x196 .f32 :=
  have p : Vec F S32x12x197 .f32 := shapeCast S32x12x197
    (extractStridedSlice S32x12x1x197 ![0, 0, 0, 0] v23 slices_S32x12x197x197_S32x12x1x197_0_0_0_0) shapeCasts_S32x12x1x197_S32x12x197
  have h0 : Vec F S32x1x197 .f32 := extractStridedSlice S32x1x197 ![0, 0, 0] p slices_S32x12x197_S32x1x197_0_0_0
  have h1 : Vec F S32x1x197 .f32 := extractStridedSlice S32x1x197 ![0, 1, 0] p slices_S32x12x197_S32x1x197_0_1_0
  have h2 : Vec F S32x1x197 .f32 := extractStridedSlice S32x1x197 ![0, 2, 0] p slices_S32x12x197_S32x1x197_0_2_0
  have h3 : Vec F S32x1x197 .f32 := extractStridedSlice S32x1x197 ![0, 3, 0] p slices_S32x12x197_S32x1x197_0_3_0
  have h4 : Vec F S32x1x197 .f32 := extractStridedSlice S32x1x197 ![0, 4, 0] p slices_S32x12x197_S32x1x197_0_4_0
  have h5 : Vec F S32x1x197 .f32 := extractStridedSlice S32x1x197 ![0, 5, 0] p slices_S32x12x197_S32x1x197_0_5_0
  have h6 : Vec F S32x1x197 .f32 := extractStridedSlice S32x1x197 ![0, 6, 0] p slices_S32x12x197_S32x1x197_0_6_0
  have h7 : Vec F S32x1x197 .f32 := extractStridedSlice S32x1x197 ![0, 7, 0] p slices_S32x12x197_S32x1x197_0_7_0
  have h8 : Vec F S32x1x197 .f32 := extractStridedSlice S32x1x197 ![0, 8, 0] p slices_S32x12x197_S32x1x197_0_8_0
  have h9 : Vec F S32x1x197 .f32 := extractStridedSlice S32x1x197 ![0, 9, 0] p slices_S32x12x197_S32x1x197_0_9_0
  have h10 : Vec F S32x1x197 .f32 := extractStridedSlice S32x1x197 ![0, 10, 0] p slices_S32x12x197_S32x1x197_0_10_0
  have h11 : Vec F S32x1x197 .f32 := extractStridedSlice S32x1x197 ![0, 11, 0] p slices_S32x12x197_S32x1x197_0_11_0
  have u : Vec F S32x1x197 .f32 := addf (addf (addf (addf (addf (addf (addf (addf (addf (addf (addf h0 h1) h2) h3) h4) h5) h6) h7) h8) h9) h10) h11
  have w : Vec F S32x1x197 .f32 := mulf u (broadcastInDim S32x1x197 ![0, 2] bcast_S32x197_S32x1x197_0_2 v26)
  have y : Vec F S32x1x196 .f32 := extractStridedSlice S32x1x196 ![0, 0, 1] w slices_S32x1x197_S32x1x196_0_0_1
  have t : Vec F S32x1 .f32 := Host.reduceAdd y (constant S_ .f32 0x00000000#32) reducesTo_S32x1x196_S32x1_d2 h_S_
  Host.divf y (broadcastInDim S32x1x196 ![0, 1, 2] bcast_S32x1x1_S32x1x196_0_1_2
    (broadcastInDim S32x1x1 ![0, 1] bcast_S32x1_S32x1x1_0_1 t))

/-- The scores handed to the first call. -/
theorem headScore_eq (V : Valuation τ sig (Elt F)) :
    StableHlo.after hostOps0_2 V (Proc.devRef .tc main_v58) = headScore (F := F) (V (Proc.devRef .tc main_v23)) (V (Proc.devRef .tc main_v26)) := by
  after_results_simp
  rfl

end Stages

/-- Twelve terms summed are the terms added in order. -/
theorem sum_heads (f : Fin 12 → EReal) :
    ∑ h, f h = f 0 + f 1 + f 2 + f 3 + f 4 + f 5 + f 6 + f 7 + f 8 + f 9 + f 10 + f 11 := by
  simp only [Fin.sum_univ_castSucc, Finset.univ_eq_empty, Finset.sum_empty, zero_add]
  rfl

/-- The heads added one by one are the heads summed. -/
theorem headScore_at (a : Vec Ideal S32x12x197x197 .f32) (v : Vec Ideal S32x197 .f32) (b : Fin 32) (k : Fin 196) :
    headScore (F := Ideal) a v (ix3 b 0 k) = Cert.ReferenceIdeal.Ref.score (F := Ideal) a v (ix2 b k) := by
  pointwise [headScore, Cert.ReferenceIdeal.Ref.score]
  simp only [sum_heads]

variable (m : (ℓ : Loc nD τ sig) → Buf (Elt Ideal) ℓ) (ρ : Dev nD → PrngReg) (c : Dev nD)

/-- Each row of scores is the reference's. -/
theorem row_eq (b : Fin 32) : row m ρ c b = fun k =>
    Cert.ReferenceIdeal.Ref.scores (m ((c : Thread nD τ).loc main_arg0)) (m ((c : Thread nD τ).loc main_arg3)) (ix2 b k) := by
  funext k
  have h : W3 m ρ c (Proc.devRef .tc main_v58) = headScore (F := Ideal)
      (Cert.ReferenceIdeal.Ref.attn (m ((c : Thread nD τ).loc main_arg0)) (m ((c : Thread nD τ).loc main_arg3)))
      (Cert.ReferenceIdeal.Ref.vnorm (Cert.ReferenceIdeal.Ref.vals (m ((c : Thread nD τ).loc main_arg0)) (m ((c : Thread nD τ).loc main_arg3)))) := by
    refine (headScore_eq _).trans ?_
    have ha : W1 m ρ c (Proc.devRef .tc main_v23)
        = Cert.ReferenceIdeal.Ref.attn (m ((c : Thread nD τ).loc main_arg0)) (m ((c : Thread nD τ).loc main_arg3)) := attn_eq _
    have hv : W2 m ρ c (Proc.devRef .tc main_v26) = Cert.ReferenceIdeal.Ref.vnorm
        (Cert.ReferenceIdeal.Ref.vals (m ((c : Thread nD τ).loc main_arg0)) (m ((c : Thread nD τ).loc main_arg3))) :=
      (vnorm_eq _).trans (congrArg _ (vals_eq _))
    exact congrArg₂ (headScore (F := Ideal)) ((W2_of m ρ c main_v23 (by decide +kernel)).trans ha) hv
  exact (congrFun h (ix3 b 0 k)).trans (headScore_at _ _ b k)

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KernelIdeal.Twin
public import proofs.«01_k».proof.Proof.KernelIdeal.Scores
public import proofs.«01_k».proof.Proof.Reference.Result
public import Idealize.ShloMosaic.Adequacy
public import Idealize.ShloMosaic.Init

@[expose] public section

noncomputable section

namespace Cert.Proof

open Idealize.ShloMosaic Idealize.ShloMosaic.TcCoe Idealize.SL.Sem

section Selected

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)

/-- From equal arguments both programs compute the same array of selected tokens. -/
theorem selected_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Ref.U11 m' c (Proc.devRef .tc Cert.ReferenceIdeal.main_v62) : Vec Ideal Cert.ReferenceIdeal.S32x197x384 .f32)
      = Cert.KernelIdeal.Run.W6 m g c (Proc.devRef .tc Cert.KernelIdeal.main_v61) := by
  refine (Cert.ReferenceIdeal.Ref.result m' c).trans (Eq.trans ?_ (Cert.KernelIdeal.Val.result m g c).symm)
  unfold Cert.ReferenceIdeal.Ref.argX Cert.ReferenceIdeal.Ref.argRaw Cert.ReferenceIdeal.Ref.argW Cert.ReferenceIdeal.Ref.argYs
  rw [h0, h1, h3, h4]
  funext i
  rw [Cert.KernelIdeal.Val.row_eq m g c (i 0)]

end Selected

/-- The value claim: equal results from equal arguments. -/
theorem values : @Cert.algebraic_KernelIdeal_ReferenceIdeal Cert.KernelIdeal.Gen.facts Cert.ReferenceIdeal.Gen.facts := by
  intro m g m' g' _ hagree
  refine ⟨fun c => m (Thread.loc (c.tc : Thread Cert.KernelIdeal.nD Cert.KernelIdeal.τ) Cert.KernelIdeal.main_arg0),
    fun c => Cert.KernelIdeal.Run.W6 m g c (Proc.devRef .tc Cert.KernelIdeal.main_v61),
    fun c => m (Thread.loc (c.tc : Thread Cert.KernelIdeal.nD Cert.KernelIdeal.τ) Cert.KernelIdeal.main_arg2), ?_, ?_⟩
  · refine (θ_run Cert.KernelIdeal.defs _ _).mono (fun _ h c => ?_) (Cert.KernelIdeal.Run.run m g)
    obtain ⟨h0, h1, h2, h3, h4, h5, hv⟩ := h.1 c
    exact ⟨h0, hv, h2, h0, h1, h2, h3, h4, h5⟩
  · refine (θ_run Cert.ReferenceIdeal.defs _ _).mono (fun _ h c => ?_) (Cert.ReferenceIdeal.Ref.run m' g')
    obtain ⟨h0, h1, h2, h3, h4, h5, hv⟩ := h.1 c
    obtain ⟨a0, a1, a2, a3, a4, _⟩ := hagree c
    exact ⟨h0.trans a0, hv.trans (selected_eq m g m' c a0 a1 a3 a4), h2.trans a2, h0, h1, h2, h3, h4, h5⟩

theorem claim : Cert.Claim := ⟨Cert.Kernel.Gen.facts, Cert.KernelIdeal.Gen.facts, Cert.ReferenceIdeal.Gen.facts,
  Cert.KernelIdeal.Run.kernel_frame, fun m ρ _ => Cert.KernelIdeal.Run.frame_claim m ρ,
  fun m ρ _ => Cert.ReferenceIdeal.Ref.frame_claim m ρ, trivial, values⟩

end Cert.Proof

end
